-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S1 : Shape := ⟨1, ![1]⟩
abbrev S4096x128 : Shape := ⟨2, ![4096, 128]⟩
abbrev S256x2048 : Shape := ⟨2, ![256, 2048]⟩
abbrev S16x256x128 : Shape := ⟨3, ![16, 256, 128]⟩
abbrev S16 : Shape := ⟨1, ![16]⟩
abbrev S4 : Shape := ⟨1, ![4]⟩
abbrev S_ : Shape := ⟨0, ![]⟩
abbrev S256x128 : Shape := ⟨2, ![256, 128]⟩
abbrev S1x256x128 : Shape := ⟨3, ![1, 256, 128]⟩

abbrev nBuf : Space → Nat
  | .hbm => 5
  | .vmem => 6
  | .smem => 2
  | _ => 0

abbrev bufTy : (tb : Table) → Fin (tcTables nBuf tb) → BufTy
  | .hbm, ⟨0, _⟩ => ⟨S256x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e4m3⟩
  | .local _ .vmem, ⟨1, _⟩ => ⟨S4096x2048, .fp8e4m3⟩
  | .local _ .vmem, ⟨2, _⟩ => ⟨S4096x128, .f32⟩
  | .local _ .vmem, ⟨3, _⟩ => ⟨S256x2048, .f32⟩
  | .local _ .vmem, ⟨4, _⟩ => ⟨S16x256x128, .bf16⟩
  | .local _ .vmem, ⟨5, _⟩ => ⟨S16x256x128, .bf16⟩
  | .local _ .smem, ⟨0, _⟩ => ⟨S1, .f32⟩
  | .local _ .smem, ⟨1, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 5 37 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let c0_68 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v77 : BitVec 32 := Scalar.muli v2 c128_i32
  let v78 : Index := Scalar.indexCast v77
  ![0, v78.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v80 : BitVec 32 := Scalar.muli v2 c256_i32
  let v81 : Index := Scalar.indexCast v80
  let c0_69 : Index := 0#32
  ![v81.toNat, 0]
def k0_off3 (d0 : Dev nD) (c1_i32_70 : BitVec 32) : Fin 2 → Nat :=
  let c0_73 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v83 : BitVec 32 := Scalar.addi v2 c1_i32_70
  let c16_i32_71 : BitVec 32 := 16#32
  let v84 : BitVec 32 := Scalar.remsi v83 c16_i32_71
  let c128_i32_72 : BitVec 32 := 128#32
  let v85 : BitVec 32 := Scalar.muli v84 c128_i32_72
  let v86 : Index := Scalar.indexCast v85
  ![0, v86.toNat]
def k0_dev16 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_160 : BitVec 32 := 1#32
  let v218 : BitVec 32 := Scalar.addi v2 c1_i32_160
  let c16_i32_161 : BitVec 32 := 16#32
  let v219 : BitVec 32 := Scalar.remsi v218 c16_i32_161
  let c1_i32_166 : BitVec 32 := 1#32
  let v220 : BitVec 32 := Scalar.muli v219 c1_i32_166
  let v221 : BitVec 32 := Scalar.addi c0_i32_167 v220
  v221.toNat
def k0_dev17 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_172 : BitVec 32 := 2#32
  let v230 : BitVec 32 := Scalar.addi v2 c2_i32_172
  let c16_i32_173 : BitVec 32 := 16#32
  let v231 : BitVec 32 := Scalar.remsi v230 c16_i32_173
  let c1_i32_178 : BitVec 32 := 1#32
  let v232 : BitVec 32 := Scalar.muli v231 c1_i32_178
  let v233 : BitVec 32 := Scalar.addi c0_i32_179 v232
  v233.toNat
def k0_dev18 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_184 : BitVec 32 := 3#32
  let v242 : BitVec 32 := Scalar.addi v2 c3_i32_184
  let c16_i32_185 : BitVec 32 := 16#32
  let v243 : BitVec 32 := Scalar.remsi v242 c16_i32_185
  let c1_i32_190 : BitVec 32 := 1#32
  let v244 : BitVec 32 := Scalar.muli v243 c1_i32_190
  let v245 : BitVec 32 := Scalar.addi c0_i32_191 v244
  v245.toNat
def k0_dev19 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_196 : BitVec 32 := 4#32
  let v254 : BitVec 32 := Scalar.addi v2 c4_i32_196
  let c16_i32_197 : BitVec 32 := 16#32
  let v255 : BitVec 32 := Scalar.remsi v254 c16_i32_197
  let c1_i32_202 : BitVec 32 := 1#32
  let v256 : BitVec 32 := Scalar.muli v255 c1_i32_202
  let v257 : BitVec 32 := Scalar.addi c0_i32_203 v256
  v257.toNat
def k0_dev20 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_208 : BitVec 32 := 5#32
  let v266 : BitVec 32 := Scalar.addi v2 c5_i32_208
  let c16_i32_209 : BitVec 32 := 16#32
  let v267 : BitVec 32 := Scalar.remsi v266 c16_i32_209
  let c1_i32_214 : BitVec 32 := 1#32
  let v268 : BitVec 32 := Scalar.muli v267 c1_i32_214
  let v269 : BitVec 32 := Scalar.addi c0_i32_215 v268
  v269.toNat
def k0_dev21 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_220 : BitVec 32 := 6#32
  let v278 : BitVec 32 := Scalar.addi v2 c6_i32_220
  let c16_i32_221 : BitVec 32 := 16#32
  let v279 : BitVec 32 := Scalar.remsi v278 c16_i32_221
  let c1_i32_226 : BitVec 32 := 1#32
  let v280 : BitVec 32 := Scalar.muli v279 c1_i32_226
  let v281 : BitVec 32 := Scalar.addi c0_i32_227 v280
  v281.toNat
def k0_dev22 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_232 : BitVec 32 := 7#32
  let v290 : BitVec 32 := Scalar.addi v2 c7_i32_232
  let c16_i32_233 : BitVec 32 := 16#32
  let v291 : BitVec 32 := Scalar.remsi v290 c16_i32_233
  let c1_i32_238 : BitVec 32 := 1#32
  let v292 : BitVec 32 := Scalar.muli v291 c1_i32_238
  let v293 : BitVec 32 := Scalar.addi c0_i32_239 v292
  v293.toNat
def k0_dev23 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_244 : BitVec 32 := 8#32
  let v302 : BitVec 32 := Scalar.addi v2 c8_i32_244
  let c16_i32_245 : BitVec 32 := 16#32
  let v303 : BitVec 32 := Scalar.remsi v302 c16_i32_245
  let c1_i32_250 : BitVec 32 := 1#32
  let v304 : BitVec 32 := Scalar.muli v303 c1_i32_250
  let v305 : BitVec 32 := Scalar.addi c0_i32_251 v304
  v305.toNat
def k0_dev24 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_256 : BitVec 32 := 9#32
  let v314 : BitVec 32 := Scalar.addi v2 c9_i32_256
  let c16_i32_257 : BitVec 32 := 16#32
  let v315 : BitVec 32 := Scalar.remsi v314 c16_i32_257
  let c1_i32_262 : BitVec 32 := 1#32
  let v316 : BitVec 32 := Scalar.muli v315 c1_i32_262
  let v317 : BitVec 32 := Scalar.addi c0_i32_263 v316
  v317.toNat
def k0_dev25 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_268 : BitVec 32 := 10#32
  let v326 : BitVec 32 := Scalar.addi v2 c10_i32_268
  let c16_i32_269 : BitVec 32 := 16#32
  let v327 : BitVec 32 := Scalar.remsi v326 c16_i32_269
  let c1_i32_274 : BitVec 32 := 1#32
  let v328 : BitVec 32 := Scalar.muli v327 c1_i32_274
  let v329 : BitVec 32 := Scalar.addi c0_i32_275 v328
  v329.toNat
def k0_dev26 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_280 : BitVec 32 := 11#32
  let v338 : BitVec 32 := Scalar.addi v2 c11_i32_280
  let c16_i32_281 : BitVec 32 := 16#32
  let v339 : BitVec 32 := Scalar.remsi v338 c16_i32_281
  let c1_i32_286 : BitVec 32 := 1#32
  let v340 : BitVec 32 := Scalar.muli v339 c1_i32_286
  let v341 : BitVec 32 := Scalar.addi c0_i32_287 v340
  v341.toNat
def k0_dev27 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_292 : BitVec 32 := 12#32
  let v350 : BitVec 32 := Scalar.addi v2 c12_i32_292
  let c16_i32_293 : BitVec 32 := 16#32
  let v351 : BitVec 32 := Scalar.remsi v350 c16_i32_293
  let c1_i32_298 : BitVec 32 := 1#32
  let v352 : BitVec 32 := Scalar.muli v351 c1_i32_298
  let v353 : BitVec 32 := Scalar.addi c0_i32_299 v352
  v353.toNat
def k0_dev28 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_304 : BitVec 32 := 13#32
  let v362 : BitVec 32 := Scalar.addi v2 c13_i32_304
  let c16_i32_305 : BitVec 32 := 16#32
  let v363 : BitVec 32 := Scalar.remsi v362 c16_i32_305
  let c1_i32_310 : BitVec 32 := 1#32
  let v364 : BitVec 32 := Scalar.muli v363 c1_i32_310
  let v365 : BitVec 32 := Scalar.addi c0_i32_311 v364
  v365.toNat
def k0_dev29 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_316 : BitVec 32 := 14#32
  let v374 : BitVec 32 := Scalar.addi v2 c14_i32_316
  let c16_i32_317 : BitVec 32 := 16#32
  let v375 : BitVec 32 := Scalar.remsi v374 c16_i32_317
  let c1_i32_322 : BitVec 32 := 1#32
  let v376 : BitVec 32 := Scalar.muli v375 c1_i32_322
  let v377 : BitVec 32 := Scalar.addi c0_i32_323 v376
  v377.toNat
def k0_dev30 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_328 : BitVec 32 := 15#32
  let v386 : BitVec 32 := Scalar.addi v2 c15_i32_328
  let c16_i32_329 : BitVec 32 := 16#32
  let v387 : BitVec 32 := Scalar.remsi v386 c16_i32_329
  let c1_i32_334 : BitVec 32 := 1#32
  let v388 : BitVec 32 := Scalar.muli v387 c1_i32_334
  let v389 : BitVec 32 := Scalar.addi c0_i32_335 v388
  v389.toNat
def k0_off4 (d0 : Dev nD) (c1_i32_625 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v608 : BitVec 32 := Scalar.subi v2 c1_i32_625
  let c16_i32_626 : BitVec 32 := 16#32
  let v609 : BitVec 32 := Scalar.addi v608 c16_i32_626
  let c16_i32_627 : BitVec 32 := 16#32
  let v610 : BitVec 32 := Scalar.remsi v609 c16_i32_627
  let c256_i32_631 : BitVec 32 := 256#32
  let v614 : BitVec 32 := Scalar.muli v610 c256_i32_631
  let v615 : Index := Scalar.indexCast v614
  let c0_632 : Index := 0#32
  ![v615.toNat, 0]
abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.K.Loop.lean ====
/-
# The kernel's body as five loops

The printed body is fifteen signals, a wait, the product, and then fifteen times each: the rounding of one
column block into its slot, the copy of that slot to its device, the two waits of that copy, and the store of
what arrived. Here each of these is written ONCE, at the peer's distance `r + 1` (`r : Fin 15`), and the printed
text is shown to be the five loops in a row (`body_eq_loops`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.K

open Cert.KernelIdeal Cert.KernelIdeal.Gen
open Idealize.ShloMosaic Idealize.ShloMosaic.TcCoe
open Idealize.SL Idealize.SL.Sem

variable {F : FTy → Type} [FloatOps F]

/-! ## Loops -/

/-- The programs `f r`, one after the other along a list. -/
def loop (f : Fin 15 → Prog (TpuEff nD τ sig (Elt F) Λ₀ .tc) PUnit) : List (Fin 15) → Prog (TpuEff nD τ sig (Elt F) Λ₀ .tc) PUnit
  | [] => .ret ⟨⟩
  | r :: l => (f r).bind fun _ => loop f l

/-- The fifteen distances, as written. -/
abbrev all15 : List (Fin 15) := [0, 1, 2, 3, 4, 5, 6, 7, 8, 9, 10, 11, 12, 13, 14]

/-! ## The memrefs and the semaphores -/

abbrev xM : Memref sig .tc .vmem S256x4096 .fp8e4m3 := Memref.whole cc0_stg0_0
abbrev wM : Memref sig .tc .vmem S4096x2048 .fp8e4m3 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x128 .f32 := Memref.whole cc0_stg4_0
abbrev yM : Memref sig .tc .vmem S256x2048 .f32 := Memref.whole cc0_scratch0
abbrev sM : Memref sig .tc .vmem S16x256x128 .bf16 := Memref.whole cc0_scratch1
abbrev rM : Memref sig .tc .vmem S16x256x128 .bf16 := Memref.whole cc0_scratch2

theorem slot_inb : ∀ r : Fin 15, ∀ a, (![r.val + 1, 0, 0] : Fin 3 → Nat) a + S1x256x128.size a ≤ S16x256x128.size a := by decide +kernel
theorem sem_inb : ∀ r : Fin 15, ∀ a, (![r.val + 1] : Fin 1 → Nat) a + S1.size a ≤ S16.size a := by decide +kernel

/-- Slot `r + 1` of a buffer of sixteen slots. -/
abbrev slotR (r : Fin 15) : Rect S16x256x128 := Rect.unit (s := S16x256x128) ![r.val + 1, 0, 0] S1x256x128.size (slot_inb r)
/-- The rows and columns of that slot in the buffer the copies leave from, -/
abbrev sSlot (r : Fin 15) : Memref sig .tc .vmem S256x128 .bf16 := (sM.slice (slotR r) (fun _ => rfl)).squeeze S256x128 squeezes_S1x256x128_S256x128
/-- and in the buffer the copies arrive in. -/
abbrev rSlot (r : Fin 15) : Memref sig .tc .vmem S256x128 .bf16 := (rM.slice (slotR r) (fun _ => rfl)).squeeze S256x128 squeezes_S1x256x128_S256x128

abbrev barS : Sem sig := (SemArray.scalar (sig.barrier 0 rfl) : Sems sig S_).sem
abbrev sendS (r : Fin 15) : DmaSem sig := ((cc0_scratch3.slice (Rect.unit (s := S16) ![r.val + 1] S1.size (sem_inb r))).squeeze S_ squeezes_S1_S_ : DmaSems sig S_).sem
abbrev recvS (r : Fin 15) : DmaSem sig := ((cc0_scratch4.slice (Rect.unit (s := S16) ![r.val + 1] S1.size (sem_inb r))).squeeze S_ squeezes_S1_S_ : DmaSems sig S_).sem

theorem words_slot : ∀ r : Fin 15, (slotR r).WholeWords (EltTy.packing .bf16)
  | 0 => wordsbf16_S16x256x128_S1x256x128_1_0_0 | 1 => wordsbf16_S16x256x128_S1x256x128_2_0_0 | 2 => wordsbf16_S16x256x128_S1x256x128_3_0_0
  | 3 => wordsbf16_S16x256x128_S1x256x128_4_0_0 | 4 => wordsbf16_S16x256x128_S1x256x128_5_0_0 | 5 => wordsbf16_S16x256x128_S1x256x128_6_0_0
  | 6 => wordsbf16_S16x256x128_S1x256x128_7_0_0 | 7 => wordsbf16_S16x256x128_S1x256x128_8_0_0 | 8 => wordsbf16_S16x256x128_S1x256x128_9_0_0
  | 9 => wordsbf16_S16x256x128_S1x256x128_10_0_0 | 10 => wordsbf16_S16x256x128_S1x256x128_11_0_0 | 11 => wordsbf16_S16x256x128_S1x256x128_12_0_0
  | 12 => wordsbf16_S16x256x128_S1x256x128_13_0_0 | 13 => wordsbf16_S16x256x128_S1x256x128_14_0_0 | 14 => wordsbf16_S16x256x128_S1x256x128_15_0_0
theorem packed_slot : ∀ r : Fin 15, (slotR r).PackedRows (EltTy.packing .bf16)
  | 0 => packedbf16_S16x256x128_S1x256x128_1_0_0 | 1 => packedbf16_S16x256x128_S1x256x128_2_0_0 | 2 => packedbf16_S16x256x128_S1x256x128_3_0_0
  | 3 => packedbf16_S16x256x128_S1x256x128_4_0_0 | 4 => packedbf16_S16x256x128_S1x256x128_5_0_0 | 5 => packedbf16_S16x256x128_S1x256x128_6_0_0
  | 6 => packedbf16_S16x256x128_S1x256x128_7_0_0 | 7 => packedbf16_S16x256x128_S1x256x128_8_0_0 | 8 => packedbf16_S16x256x128_S1x256x128_9_0_0
  | 9 => packedbf16_S16x256x128_S1x256x128_10_0_0 | 10 => packedbf16_S16x256x128_S1x256x128_11_0_0 | 11 => packedbf16_S16x256x128_S1x256x128_12_0_0
  | 12 => packedbf16_S16x256x128_S1x256x128_13_0_0 | 13 => packedbf16_S16x256x128_S1x256x128_14_0_0 | 14 => packedbf16_S16x256x128_S1x256x128_15_0_0

theorem s_words (r : Fin 15) : (sSlot r).view.WordExact := (((Memref.isWhole_whole cc0_scratch1).wordExact_slice rfl _ (words_slot r)).reshape _ _)
theorem r_words (r : Fin 15) : (rSlot r).view.WordExact := (((Memref.isWhole_whole cc0_scratch2).wordExact_slice rfl _ (words_slot r)).reshape _ _)

/-! ## The devices named -/

/-- The device the signal number `r` names, as the text computes it; -/
def sigDev (c : Dev nD) : Fin 15 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩ | 7 => ⟨k0_dev8 c, k0_dev8_lt c⟩
  | 8 => ⟨k0_dev9 c, k0_dev9_lt c⟩ | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩
/-- the device the copy number `r` goes to. -/
def dstDev (c : Dev nD) : Fin 15 → Dev nD
  | 0 => ⟨k0_dev16 c, k0_dev16_lt c⟩ | 1 => ⟨k0_dev17 c, k0_dev17_lt c⟩ | 2 => ⟨k0_dev18 c, k0_dev18_lt c⟩ | 3 => ⟨k0_dev19 c, k0_dev19_lt c⟩
  | 4 => ⟨k0_dev20 c, k0_dev20_lt c⟩ | 5 => ⟨k0_dev21 c, k0_dev21_lt c⟩ | 6 => ⟨k0_dev22 c, k0_dev22_lt c⟩ | 7 => ⟨k0_dev23 c, k0_dev23_lt c⟩
  | 8 => ⟨k0_dev24 c, k0_dev24_lt c⟩ | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | 14 => ⟨k0_dev30 c, k0_dev30_lt c⟩

/-! ## The accesses -/

abbrev yOwnR (c : Dev nD) : Rect S256x2048 := Rect.unit (s := S256x2048) (k0_off1 c) S256x128.size (k0_off1_inb c)
abbrev oOwnR (c : Dev nD) : Rect S4096x128 := Rect.unit (s := S4096x128) (k0_off2 c) S256x128.size (k0_off2_inb c)
abbrev yR (c : Dev nD) (r : Fin 15) : Rect S256x2048 := Rect.unit (s := S256x2048) (k0_off3 c (BitVec.ofNat 32 (1 + r.val))) S256x128.size (k0_off3_inb c r)
abbrev oR (c : Dev nD) (r : Fin 15) : Rect S4096x128 := Rect.unit (s := S4096x128) (k0_off4 c (BitVec.ofNat 32 (1 + r.val))) S256x128.size (k0_off4_inb c r)

/-- A column block rounded, as the slot holds it; -/
abbrev rnd (v : Vec F S256x128 .f32) : FVec F S1x256x128 .bf16 := k0_pay5 v
/-- a slot widened, as the result holds it. -/
abbrev wid (v : Vec F S1x256x128 .bf16) : FVec F S256x128 .f32 := k0_pay2 v

/-! ## The five loops' bodies -/

/-- Signal the entry barrier of the device at distance `r + 1`. -/
def sigStep (c : Dev nD) (r : Fin 15) : Prog (TpuEff nD τ sig (Elt F) Λ₀ .tc) PUnit :=
  .op (.semSignal ((sigDev c r : Dev nD), Proc.tc) barS (1#32 : BitVec 32).toInt) .ret
/-- Round the column block of the device at distance `r + 1` into slot `r + 1`. -/
def stageStep (c : Dev nD) (r : Fin 15) : Prog (TpuEff nD τ sig (Elt F) Λ₀ .tc) PUnit :=
  .op (.load yM (yR c r).toLoadRect (View.loadsAt_vmem h_S256x128)) fun v =>
  .op (.load sM (slotR r).toLoadRect (View.loadsAt_vmem h_S1x256x128)) fun _ =>
  .op (.store sM (slotR r) (rnd v) Finset.univ
    (View.stores_vmem h_S1x256x128 ((Memref.isWhole_whole cc0_scratch1).storeExact_slice rfl _ (packed_slot r)) (fun _ => rfl)) (.inl rfl)) .ret
/-- Start the copy of slot `r + 1` to the device at distance `r + 1`. -/
def sendStep (c : Dev nD) (r : Fin 15) : Prog (TpuEff nD τ sig (Elt F) Λ₀ .tc) PUnit :=
  .op (.enqueueDma (sSlot r) (.remote (Dev.tc (dstDev c r)) (rSlot r) (.dma (sendS r))) (.dma (recvS r)) (s_words r) (r_words r) ⟨⟨rfl, Or.inl rfl⟩, trivial⟩) .ret
/-- Wait until slot `r + 1` has left and until the slot `r + 1` of the device at distance `16 - (r + 1)` has arrived. -/
def waitStep (r : Fin 15) : Prog (TpuEff nD τ sig (Elt F) Λ₀ .tc) PUnit :=
  .op (.waitDma2 (sendS r) (rSlot r) (sSlot r) (r_words r) (s_words r)) fun _ =>
  .op (.waitDma2 (recvS r) (sSlot r) (rSlot r) (s_words r) (r_words r)) .ret
/-- Widen the slot that arrived into its rows of the result. -/
def outStep (c : Dev nD) (r : Fin 15) : Prog (TpuEff nD τ sig (Elt F) Λ₀ .tc) PUnit :=
  .op (.load rM (slotR r).toLoadRect (View.loadsAt_vmem h_S1x256x128)) fun v =>
  .op (.load oM (oR c r).toLoadRect (View.loadsAt_vmem h_S256x128)) fun _ =>
  .op (.store oM (oR c r) (wid v) Finset.univ (View.stores_vmem_bits_univ h_S256x128 rfl) (.inl rfl)) .ret

/-- From the product on: what the device does after the barrier, then `k`. -/
def middle (c : Dev nD) (k : Prog (TpuEff nD τ sig (Elt F) Λ₀ .tc) PUnit) : Prog (TpuEff nD τ sig (Elt F) Λ₀ .tc) PUnit :=
  smemLoadElt sxM (Rect.unit (s := S1) ![0] S1.size inb_S1_S1_0) (View.loads_smem_one rfl numel1_S1) (Shape.Idx.first (numel1_S1.symm ▸ Nat.one_pos)) fun a =>
  smemLoadElt swM (Rect.unit (s := S1) ![0] S1.size inb_S1_S1_0) (View.loads_smem_one rfl numel1_S1) (Shape.Idx.first (numel1_S1.symm ▸ Nat.one_pos)) fun b =>
  .op (.load xM (Rect.unit (s := S256x4096) ![0, 0] S256x4096.size inb_S256x4096_S256x4096_0_0).toLoadRect (View.loadsAt_vmem h_S256x4096)) fun x =>
  .op (.load wM (Rect.unit (s := S4096x2048) ![0, 0] S4096x2048.size inb_S4096x2048_S4096x2048_0_0).toLoadRect (View.loadsAt_vmem h_S4096x2048)) fun w =>
  .op (.load yM (Rect.unit (s := S256x2048) ![0, 0] S256x2048.size inb_S256x2048_S256x2048_0_0).toLoadRect (View.loadsAt_vmem h_S256x2048)) fun _ =>
  .op (.store yM (Rect.unit (s := S256x2048) ![0, 0] S256x2048.size inb_S256x2048_S256x2048_0_0) (k0_pay4 (k0_pay3 a b x w)) Finset.univ
    (View.stores_vmem_bits_univ h_S256x2048 rfl) (.inl rfl)) fun _ =>
  .op (.load yM (yOwnR c).toLoadRect (View.loadsAt_vmem h_S256x128)) fun v =>
  .op (.load oM (oOwnR c).toLoadRect (View.loadsAt_vmem h_S256x128)) fun _ =>
  .op (.store oM (oOwnR c) v Finset.univ (View.stores_vmem_bits_univ h_S256x128 rfl) (.inl rfl)) fun _ => k

/-- The body: signal all, wait for all, the product, stage all, send all, await all, put all. -/
def loops : Prog (TpuEff nD τ sig (Elt F) Λ₀ .tc) PUnit :=
  .op .deviceId fun c =>
  (loop (sigStep c) all15).bind fun _ =>
  .op (.semWait barS (15#32 : BitVec 32).toInt) fun _ =>
  middle c <|
  (loop (stageStep c) all15).bind fun _ =>
  (loop (sendStep c) all15).bind fun _ =>
  (loop waitStep all15).bind fun _ =>
  loop (outStep c) all15

/-- The printed body on the buffers the launch gives it. -/
abbrev printed : Prog (TpuEff nD τ sig (Elt F) Λ₀ .tc) PUnit :=
  cc0_body xM (Memref.isWhole_whole _) wM (Memref.isWhole_whole _) sxM (Memref.isWhole_whole _) swM (Memref.isWhole_whole _) oM (Memref.isWhole_whole _)
    yM (Memref.isWhole_whole _) sM (Memref.isWhole_whole _) rM (Memref.isWhole_whole _) cc0_scratch3 cc0_scratch4 cc0_scratch5

set_option maxRecDepth 65536 in
/-- The printed body is the five loops in a row: by unfolding. -/
theorem body_eq_loops : printed (F := F) = loops := by
  chain_rfl

end Cert.K

end
-- ==== Proof.K.Schedule.lean ====
/-
# Who waits, who pays, how much, and what each landing hands over

For devices `c` and distances `r + 1` (`r : Fin 15`), `nx c r` is the device `r + 1` further on and `pv c r` the
one `r + 1` back, modulo 16.

* `barCell c`, the entry barrier: device `c` waits ONCE, for 15. Fifteen duties of one unit. Duty `d` is paid by
  the device `nx c d` and hands `c` that device's slot `d + 1` of the buffer the copies arrive in, at whatever
  contents: the very slot `c`'s copy number `d` fills.
* `sendCell c r`: one duty, the credit of a slot, paid by the copy's departure; it hands back slot `r + 1` of the
  buffer the copies leave from, with the rounded columns it held.
* `recvCell c r`: one duty, the credit of a slot, paid by the copy number `r` of device `pv c r`; it hands `c` its
  own slot `r + 1` of the buffer the copies arrive in, holding the columns of `c` of that device's product, rounded.
-/
module

public import proofs.«01_k».proof.Proof.K.Loop

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the mesh's own, whose duties are numbered `Fin 15` -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The mesh -/

/-- The device `r + 1` further on, -/
def nx (c : Dev nD) (r : Fin 15) : Dev nD := ⟨(c.val + (r.val + 1)) % 16, Nat.mod_lt _ (by decide)⟩
/-- the device `r + 1` back. -/
def pv (c : Dev nD) (r : Fin 15) : Dev nD := ⟨(c.val + (15 - r.val)) % 16, Nat.mod_lt _ (by decide)⟩

theorem pv_nx : ∀ (c : Dev nD) (r : Fin 15), pv (nx c r) r = c := by decide +kernel
theorem nx_pv : ∀ (c : Dev nD) (r : Fin 15), nx (pv c r) r = c := by decide +kernel
/-- Going on by `r + 1` and then by the rest of the round comes back. -/
theorem nx_rev : ∀ (c : Dev nD) (r : Fin 15), nx (nx c r) (Fin.rev r) = c := by decide +kernel
theorem pv_ne : ∀ (c : Dev nD) (r : Fin 15), pv c r ≠ c := by decide +kernel
theorem pv_inj : ∀ (c : Dev nD) (r r' : Fin 15), pv c r = pv c r' → r = r' := by decide +kernel
/-- Every other device is one of the fifteen. -/
theorem pv_surj : ∀ (c p : Dev nD), p = c ∨ ∃ r, p = pv c r := by decide +kernel

/-- The signal number `r` goes to `nx c r`, -/
theorem sigDev_eq (c : Dev nD) : ∀ r, sigDev c r = nx c r := by
  intro r
  apply Fin.ext
  fin_cases r
  · exact k0_dev1_eq c
  · exact k0_dev2_eq c
  · exact k0_dev3_eq c
  · exact k0_dev4_eq c
  · exact k0_dev5_eq c
  · exact k0_dev6_eq c
  · exact k0_dev7_eq c
  · exact k0_dev8_eq c
  · exact k0_dev9_eq c
  · exact k0_dev10_eq c
  · exact k0_dev11_eq c
  · exact k0_dev12_eq c
  · exact k0_dev13_eq c
  · exact k0_dev14_eq c
  · exact k0_dev15_eq c
/-- and so does the copy number `r`. -/
theorem dstDev_eq (c : Dev nD) : ∀ r, dstDev c r = nx c r := by
  intro r
  apply Fin.ext
  fin_cases r
  · exact k0_dev16_eq c
  · exact k0_dev17_eq c
  · exact k0_dev18_eq c
  · exact k0_dev19_eq c
  · exact k0_dev20_eq c
  · exact k0_dev21_eq c
  · exact k0_dev22_eq c
  · exact k0_dev23_eq c
  · exact k0_dev24_eq c
  · exact k0_dev25_eq c
  · exact k0_dev26_eq c
  · exact k0_dev27_eq c
  · exact k0_dev28_eq c
  · exact k0_dev29_eq c
  · exact k0_dev30_eq c

/-! ## The cells -/

abbrev barCell (c : Dev nD) : GSem nD τ sig := ((c : Thread nD τ), .reg barS)
abbrev sendCell (c : Dev nD) (r : Fin 15) : GSem nD τ sig := ((c : Thread nD τ), .dma (sendS r))
abbrev recvCell (c : Dev nD) (r : Fin 15) : GSem nD τ sig := ((c : Thread nD τ), .dma (recvS r))

/-- A device's cells: the barrier, and for each distance a departure and an arrival. -/
abbrev CK : Type := Unit ⊕ (Fin 15 ⊕ Fin 15)
abbrev csem : CK → SemLoc sig
  | .inl _ => .reg barS
  | .inr (.inl r) => .dma (sendS r)
  | .inr (.inr r) => .dma (recvS r)
abbrev kcell (ck : Dev nD × CK) : GSem nD τ sig := ((ck.1 : Thread nD τ), csem ck.2)

theorem sendS_val : ∀ r : Fin 15, (sendS r).val = 6 + r.val := by decide +kernel
theorem recvS_val : ∀ r : Fin 15, (recvS r).val = 22 + r.val := by decide +kernel
theorem sendS_inj {r r' : Fin 15} (h : sendS r = sendS r') : r = r' := by
  have := congrArg Fin.val h; rw [sendS_val, sendS_val] at this; exact Fin.ext (by omega)
theorem recvS_inj {r r' : Fin 15} (h : recvS r = recvS r') : r = r' := by
  have := congrArg Fin.val h; rw [recvS_val, recvS_val] at this; exact Fin.ext (by omega)
theorem sendS_ne_recvS (r r' : Fin 15) : sendS r ≠ recvS r' := fun h => by
  have := congrArg Fin.val h; rw [sendS_val, recvS_val] at this; have := r.isLt; omega

/-- The credit of a slot. -/
abbrev N : ℕ := (rSlot 0).view.dmaCredit
theorem N_pos : 0 < N := View.dmaCredit_pos _ (by decide)
theorem N_r : ∀ r : Fin 15, (rSlot r).view.dmaCredit = N := fun _ => rfl
theorem N_s : ∀ r : Fin 15, (sSlot r).view.dmaCredit = N := fun _ => rfl

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

abbrev r1 : Rect S1 := Rect.unit (s := S1) ![0] S1.size inb_S1_S1_0
abbrev i1 : r1.shape.Idx := Shape.Idx.first (numel1_S1.symm ▸ Nat.one_pos)

/-- Device `c`'s product, scaled: what it keeps in its scratch. -/
def yv (c : Dev nD) : (cc0_scratch0 : Ref sig .tc).ty.Contents (Elt F) :=
  k0_pay4 (k0_pay3 ((sxM.access r1).read (Elt F) (sxstg m ρ c) i1) ((swM.access r1).read (Elt F) (swstg m ρ c) i1) (xstg m ρ c) (wstg m ρ c))

/-- The columns of device `c` in the product of device `p`, -/
def colBlk (p c : Dev nD) : Vec F S256x128 .f32 := yM.view.readAt (Elt F) (yOwnR c).toLoadRect (yv m ρ p)
/-- as rounded for the way. -/
def sent (p c : Dev nD) : FVec F S1x256x128 .bf16 := rnd (colBlk m ρ p c)
/-- The rows of device `p` in the result of device `c`: its own it never rounds. -/
def blk (c p : Dev nD) : FVec F S256x128 .f32 := if p = c then colBlk m ρ c c else wid (sent m ρ p c)

/-- Device `c`'s result. -/
def ov (c : Dev nD) : (cc0_stg4_0 : Ref sig .tc).ty.Contents (Elt F) := fun (i : S4096x128.Idx) =>
  blk m ρ c ⟨(i 0).val / 256, by have : (i 0).val < 4096 := (i 0).isLt; show _ < 16; omega⟩
    (fun | 0 => ⟨(i 0).val % 256, Nat.mod_lt _ (by decide)⟩ | 1 => ⟨(i 1).val, (i 1).isLt⟩)

/-- Slot `r + 1` of the buffer the copies leave from, once filled (the other slots do not matter), -/
def stC (c : Dev nD) (r : Fin 15) : Buf (Elt F) ((sSlot r).view.loc (c : Thread nD τ)) :=
  (sM.access (slotR r)).write (Elt F) (m ((c : Thread nD τ).loc cc0_scratch1)) (sent m ρ c (nx c r)) Finset.univ
/-- and slot `r + 1` of the buffer they arrive in, once filled. -/
def rvC (c : Dev nD) (r : Fin 15) : Buf (Elt F) ((rSlot r).view.loc (c : Thread nD τ)) :=
  (rSlot r).view.write (Elt F) (m ((c : Thread nD τ).loc cc0_scratch2)) ((sSlot r).view.read (Elt F) (stC m ρ (pv c r) r)) Finset.univ

def sPts (c : Dev nD) (r : Fin 15) (f : Buf (Elt F) ((sSlot r).view.loc (c : Thread nD τ))) : sProp 𝕄 :=
  (sSlot r).view.loc (c : Thread nD τ) ↦[(sSlot r).view.set]{fullShare} f
def rPts (c : Dev nD) (r : Fin 15) (f : Buf (Elt F) ((rSlot r).view.loc (c : Thread nD τ))) : sProp 𝕄 :=
  (rSlot r).view.loc (c : Thread nD τ) ↦[(rSlot r).view.set]{fullShare} f

omit [FloatOps F] in
instance sPts_storable (c : Dev nD) (r) (f) : BI.Storable (upEmb : UEmb _ 𝕄) (sPts (F := F) c r f) := by unfold sPts; infer_instance
omit [FloatOps F] in
instance rPts_storable (c : Dev nD) (r) (f) : BI.Storable (upEmb : UEmb _ 𝕄) (rPts (F := F) c r f) := by unfold rPts; infer_instance

/-! ## The schedule -/

def barPay (c : Dev nD) (d : Fin 15) : sProp 𝕄 := iprop(∃ f, rPts (nx c d) d f)
def sendPay (c : Dev nD) (r : Fin 15) : sProp 𝕄 := sPts c r (stC m ρ c r)
def recvPay (c : Dev nD) (r : Fin 15) : sProp 𝕄 := rPts c r (rvC m ρ c r)

/-- The distance a departure semaphore stands for, if it is one; -/
def sendOf (s : SemLoc sig) : Option (Fin 15) := all15.find? fun r => s = .dma (sendS r)
/-- and an arrival semaphore. -/
def recvOf (s : SemLoc sig) : Option (Fin 15) := all15.find? fun r => s = .dma (recvS r)

theorem sendOf_send : ∀ r, sendOf (.dma (sendS r)) = some r := by decide +kernel
theorem sendOf_recv : ∀ r, sendOf (.dma (recvS r)) = none := by decide +kernel
theorem recvOf_recv : ∀ r, recvOf (.dma (recvS r)) = some r := by decide +kernel
theorem recvOf_send : ∀ r, recvOf (.dma (sendS r)) = none := by decide +kernel

/-- Of a semaphore's payload: by which of the three kinds it is. -/
def payOf (c : Dev nD) (s : SemLoc sig) (d : Fin 15) : sProp 𝕄 :=
  if s = .reg barS then barPay c d
  else match sendOf s with
    | some r => sendPay m ρ c r
    | none => match recvOf s with
      | some r => recvPay m ρ c r
      | none => iprop(emp)

/-- One round: the barrier's fifteen duties of one unit, one duty of a slot's credit for each departure and arrival. -/
def rd : Rounds.Schedule (GSem nD τ sig) (Fin 15) 𝕄 where
  duties g r := if r = 0 ∧ g.1.2 = .tc then
      (if g.2 = .reg barS then Finset.univ else if (sendOf g.2).isSome ∨ (recvOf g.2).isSome then {0} else ∅)
    else ∅
  unitless _ := False
  amount g _ _ := if g.2 = .reg barS then 1 else N
  payload g _ d := payOf m ρ g.1.1 g.2 d
  amount_pos g _ _ _ := by
    by_cases h : g.2 = .reg barS
    · rw [if_pos h]; exact Nat.one_pos
    · rw [if_neg h]; exact N_pos

instance rd_payload_storable (g : GSem nD τ sig) (r : ℕ) (d : Fin 15) :
    BI.Storable (upEmb : UEmb _ 𝕄) ((rd (F := F) m ρ).payload g r d) := by
  show BI.Storable upEmb (payOf m ρ g.1.1 g.2 d)
  unfold payOf barPay sendPay recvPay
  (repeat' split) <;> infer_instance

section Sched
variable (c : Dev nD) (r : Fin 15)

theorem dma_ne_bar (q : DmaSem sig) : (SemLoc.dma q : SemLoc sig) ≠ .reg barS := fun h => by cases h

theorem duties_bar : (rd (F := F) m ρ).duties (barCell c) 0 = Finset.univ := by
  dsimp only [rd]; rw [if_pos ⟨rfl, rfl⟩, if_pos rfl]
theorem duties_send : (rd (F := F) m ρ).duties (sendCell c r) 0 = {0} := by
  dsimp only [rd]; rw [if_pos ⟨rfl, rfl⟩, if_neg (dma_ne_bar _), if_pos (Or.inl (by rw [sendOf_send]; rfl))]
theorem duties_recv : (rd (F := F) m ρ).duties (recvCell c r) 0 = {0} := by
  dsimp only [rd]; rw [if_pos ⟨rfl, rfl⟩, if_neg (dma_ne_bar _), if_pos (Or.inr (by rw [recvOf_recv]; rfl))]
theorem duties_later (g : GSem nD τ sig) : ∀ k, 1 ≤ k → (rd (F := F) m ρ).duties g k = ∅ :=
  fun k hk => by dsimp only [rd]; rw [if_neg fun h => by omega]

theorem amount_bar (d : Fin 15) : (rd (F := F) m ρ).amount (barCell c) 0 d = 1 := by dsimp only [rd]; exact if_pos rfl
theorem amount_send (d : Fin 15) : (rd (F := F) m ρ).amount (sendCell c r) 0 d = N := by dsimp only [rd]; exact if_neg (dma_ne_bar _)
theorem amount_recv (d : Fin 15) : (rd (F := F) m ρ).amount (recvCell c r) 0 d = N := by dsimp only [rd]; exact if_neg (dma_ne_bar _)

theorem expect_bar : (rd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell c r) 0 = N := by
  unfold Schedule.expect Schedule.amountOf; rw [duties_send, Finset.sum_singleton, amount_send]
theorem expect_recv : (rd (F := F) m ρ).expect (recvCell c r) 0 = N := by
  unfold Schedule.expect Schedule.amountOf; rw [duties_recv, Finset.sum_singleton, amount_recv]

theorem payload_bar (d : Fin 15) : (rd (F := F) m ρ).payload (barCell c) 0 d = barPay c d := by
  dsimp only [rd]; unfold payOf; exact if_pos rfl
theorem payload_send (d : Fin 15) : (rd (F := F) m ρ).payload (sendCell c r) 0 d = sendPay m ρ c r := by
  dsimp only [rd]; unfold payOf; rw [if_neg (dma_ne_bar _), sendOf_send]
theorem payload_recv (d : Fin 15) : (rd (F := F) m ρ).payload (recvCell c r) 0 d = recvPay m ρ c r := by
  dsimp only [rd]; unfold payOf; rw [if_neg (dma_ne_bar _), sendOf_recv, recvOf_recv]

/-- The whole of the barrier's round: the fifteen slots; -/
theorem rest_bar : bigSep ((rd (F := F) m ρ).duties (barCell c) 0 \ ∅) (fun d => (rd (F := F) m ρ).payload (barCell c) 0 d)
    = bigSep Finset.univ fun d => barPay (F := F) c d := by
  rw [Finset.sdiff_empty, duties_bar]; exact bigSep_congr fun d _ => payload_bar m ρ c d
theorem rest_send : bigSep ((rd (F := F) m ρ).duties (sendCell c r) 0 \ ∅) (fun d => (rd (F := F) m ρ).payload (sendCell c r) 0 d) = sendPay m ρ c r := by
  rw [Finset.sdiff_empty, duties_send, bigSep_singleton, payload_send]
theorem rest_recv : bigSep ((rd (F := F) m ρ).duties (recvCell c r) 0 \ ∅) (fun d => (rd (F := F) m ρ).payload (recvCell c r) 0 d) = recvPay m ρ c r := by
  rw [Finset.sdiff_empty, duties_recv, bigSep_singleton, payload_recv]

end Sched

/-! ## What each device owes at launch; the levels -/

/-- `b` and one tally for each entry of a list, the first entry added last. -/
def owL (g : Fin 15 → CellTallies nD τ sig Unit) (b : CellTallies nD τ sig Unit) : List (Fin 15) → CellTallies nD τ sig Unit
  | [] => b
  | r :: l => owL g b l + g r

theorem owL_apply (g : Fin 15 → CellTallies nD τ sig Unit) (b : CellTallies nD τ sig Unit) (l : List (Fin 15)) (x : GSem nD τ sig) (u : Unit) :
    owL g b l x u = b x u + (l.map fun r => g r x u).sum := by
  induction l with
  | nil => rfl
  | cons r l ih =>
    show (owL g b l + g r) x u = _
    rw [Pi.add_apply, Finsupp.add_apply, ih, List.map_cons, List.sum_cons]; omega

theorem owL_pos {g : Fin 15 → CellTallies nD τ sig Unit} {b : CellTallies nD τ sig Unit} {l : List (Fin 15)} {x : GSem nD τ sig} {u : Unit}
    (h : 0 < owL g b l x u) : 0 < b x u ∨ ∃ r, 0 < g r x u := by
  induction l with
  | nil => exact .inl h
  | cons r l ih =>
    change 0 < (owL g b l + g r) x u at h
    rw [Pi.add_apply, Finsupp.add_apply] at h
    by_cases hr : 0 < g r x u
    · exact .inr ⟨r, hr⟩
    · exact ih (by omega)

/-- The copies still to be sent. -/
def owR (c : Dev nD) (l : List (Fin 15)) : CellTallies nD τ sig Unit := owL (fun r => tallyAt (recvCell (nx c r) r) () N) 0 l
/-- The signals still to be given, and all the copies. -/
def owB (c : Dev nD) (l : List (Fin 15)) : CellTallies nD τ sig Unit := owL (fun r => tallyAt (barCell (nx c r)) () 1) (owR c all15) l
def O₀ (c : Dev nD) : CellTallies nD τ sig Unit := owB c all15

def L (g : GSem nD τ sig) : Finset Unit := if g.1.2 = .tc then {()} else ∅
/-- The barrier at 1, arrivals at 2, everything else at 0. -/
def lv (g : GSem nD τ sig) (_ : Unit) : ℕ := if g.2 = .reg barS then 1 else if (recvOf g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (r : Fin 15) (u : Unit) : lv (recvCell c r) u = 2 := by
  unfold lv; rw [if_neg (dma_ne_bar _), if_pos (by rw [recvOf_recv]; rfl)]

theorem tally_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

theorem owR_pos {c : Dev nD} {l : List (Fin 15)} {g : GSem nD τ sig} {u : Unit} (h : 0 < owR c l g u) : ∃ r, g = recvCell (nx c r) r := by
  rcases owL_pos h with h | ⟨r, h⟩
  · exact absurd h (Nat.lt_irrefl 0)
  · exact ⟨r, tally_pos h⟩
theorem O₀_pos {c : Dev nD} {g : GSem nD τ sig} {u : Unit} (h : 0 < O₀ c g u) :
    (∃ r, g = recvCell (nx c r) r) ∨ ∃ r, g = barCell (nx c r) := by
  rcases owL_pos h with h | ⟨r, h⟩
  · exact .inl (owR_pos h)
  · exact .inr ⟨r, tally_pos h⟩

omit [FloatOps F] in
/-- The launch's own copies wait below everything owed. -/
theorem mayWait_stage (c : Dev nD) (q : DmaSem sig) (hq : recvOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by rw [Finset.mem_singleton.mp hp]; unfold lv; rw [if_neg (fun h => by cases h), hq]; exact Nat.le_refl 0)
      (fun g u hg => by
        rcases O₀_pos hg with ⟨r, rfl⟩ | ⟨r, rfl⟩
        · rw [lv_recv]; decide
        · rw [lv_bar]; decide)
  · rw [MayWait_zero]; iintro -; iempintro

omit [FloatOps F] in
/-- At its barrier a device owes its fifteen copies only: arrivals, above the barrier. -/
theorem mayWait_bar (c : Dev nD) : (levAts L lv : sProp 𝕄) ⊢ MayWait (c : Thread nD τ) (.reg barS) () (owR c all15) :=
  MayOwe.of_cut (L := L) (lev := lv) 1 (fun p hp => by rw [Finset.mem_singleton.mp hp, L_tc]; exact Finset.mem_singleton_self _)
    (fun g u hg => by obtain ⟨r, rfl⟩ := owR_pos hg; exact Finset.mem_singleton_self _)
    (fun p hp => by rw [Finset.mem_singleton.mp hp]; exact Nat.le_of_eq (lv_bar c _))
    (fun g u hg => by obtain ⟨r, rfl⟩ := owR_pos hg; rw [lv_recv]; decide)

end Cert.K

end
-- ==== Proof.K.Slots.lean ====
/-
# Slots and blocks: where they lie, and what reading them gives

A buffer of sixteen slots is its slot 0 (never copied) and its fifteen others; a slot read after it was filled
gives back what filled it; the result's sixteen row blocks, once each holds its product's columns, ARE the result.
-/
module

public import proofs.«01_k».proof.Proof.K.Schedule
public import Idealize.ShloMosaic.Lib.Ring
public import Idealize.ShloMosaic.Lib.Writes
public import Idealize.ShloMosaic.Lib.Pipeline.BigSepL
public import Idealize.ShloMosaic.Lib.Pipeline.Value
public import Idealize.ShloMosaic.Lib.Pipeline.ValueKit.Geometry

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over the fifteen distances -/

theorem univ15 : (Finset.univ : Finset (Fin 15)) = all15.toFinset := by decide
theorem nodup15 : all15.Nodup := by decide

omit [FloatOps F] in
theorem sep15 (Φ : Fin 15 → sProp 𝕄) : bigSep Finset.univ Φ = bigSepL all15 Φ := bigSep_univ_eq_bigSepL all15 univ15 nodup15 Φ

omit [FloatOps F] in
theorem mono15 {Φ Ψ : Fin 15 → sProp 𝕄} (h : ∀ r, (Φ r ⊢ Ψ r : Prop)) : (bigSep Finset.univ Φ : sProp 𝕄) ⊢ bigSep Finset.univ Ψ :=
  bigSep_mono fun r _ => h r

omit [FloatOps F] in
theorem sep16 (Φ : Fin 16 → sProp 𝕄) : bigSep Finset.univ Φ = iprop(Φ 0 ∗ bigSep Finset.univ fun r : Fin 15 => Φ r.succ) := by
  rw [sep15, bigSep_univ_eq_bigSepL (0 :: all15.map Fin.succ) (by decide) (by decide), bigSepL_cons', bigSepL_map]

/-! ## The slots of a buffer of sixteen -/

theorem slot_inb' : ∀ b : Fin 16, ∀ a, (![b.val, 0, 0] : Fin 3 → Nat) a + S1x256x128.size a ≤ S16x256x128.size a := by decide +kernel
/-- The elements of slot `b`. -/
def slotSet (b : Fin 16) : Finset S16x256x128.Idx := (Rect.unit (s := S16x256x128) ![b.val, 0, 0] S1x256x128.size (slot_inb' b)).set

theorem mem_slotSet (b : Fin 16) (i : S16x256x128.Idx) : i ∈ slotSet b ↔ (i 0).val = b.val := by
  unfold slotSet
  rw [Rect.mem_set_unit]
  constructor
  · intro h
    have h0 : b.val ≤ (i 0).val ∧ (i 0).val < b.val + 1 := h 0
    omega
  · intro h a
    have h1 : (i 1).val < 256 := (i 1).isLt
    have h2 : (i 2).val < 128 := (i 2).isLt
    fin_cases a
    · show b.val ≤ (i 0).val ∧ (i 0).val < b.val + 1
      omega
    · show 0 ≤ (i 1).val ∧ (i 1).val < 0 + 256
      omega
    · show 0 ≤ (i 2).val ∧ (i 2).val < 0 + 128
      omega

theorem slot_disjoint (b b' : Fin 16) (h : b ≠ b') : Disjoint (slotSet b) (slotSet b') :=
  Finset.disjoint_left.mpr fun i hi hi' => h (Fin.ext (((mem_slotSet b i).mp hi).symm.trans ((mem_slotSet b' i).mp hi')))
theorem slot_cover : Finset.univ.biUnion slotSet = (Finset.univ : Finset S16x256x128.Idx) :=
  Finset.eq_univ_iff_forall.mpr fun i => Finset.mem_biUnion.mpr ⟨⟨(i 0).val, (i 0).isLt⟩, Finset.mem_univ _, (mem_slotSet _ i).mpr rfl⟩

theorem sSlot_set (r : Fin 15) : (sSlot r).view.set = slotSet r.succ :=
  (View.set_reshape _ _).trans (View.set_slice_whole _ _)
theorem rSlot_set (r : Fin 15) : (rSlot r).view.set = slotSet r.succ :=
  (View.set_reshape _ _).trans (View.set_slice_whole _ _)
theorem sAcc_set (r : Fin 15) : (sM.access (slotR r)).set = (sSlot r).view.set := (View.set_reshape _ _).symm
theorem rAcc_set (r : Fin 15) : (rM.access (slotR r)).set = (rSlot r).view.set := (View.set_reshape _ _).symm

omit [FloatOps F] in
/-- The buffer the copies leave from, whole, is its slot 0 and the fifteen others, each at some contents; -/
theorem s_split (c : Dev nD) :
    (iprop(∃ f : Buf (Elt F) ((c : Thread nD τ).loc cc0_scratch1), ((c : Thread nD τ).loc cc0_scratch1) ↦{fullShare} f) : sProp 𝕄)
      ⊢ iprop((∃ f : Buf (Elt F) ((c : Thread nD τ).loc cc0_scratch1), ((c : Thread nD τ).loc cc0_scratch1) ↦[slotSet 0]{fullShare} f)
          ∗ bigSep Finset.univ fun r => iprop(∃ f, sPts c r f)) := by
  iintro ⟨%f, H⟩
  ihave H' := (Entails.of_eq ((Ring.pointsTo_blocks (ℓ := (c : Thread nD τ).loc cc0_scratch1) slotSet slot_disjoint slot_cover f).trans (sep16 _))) $$ H
  icases H' with ⟨H0, Hr⟩
  isplitl [H0]; · iexists f; iexact H0
  iapply (mono15 (F := F) fun r => ?_) $$ Hr
  iintro H; iexists f; unfold sPts; rw [sSlot_set]; iexact H

omit [FloatOps F] in
/-- and back. -/
theorem s_join (c : Dev nD) (fs : (r : Fin 15) → Buf (Elt F) ((sSlot r).view.loc (c : Thread nD τ))) :
    iprop((∃ f : Buf (Elt F) ((c : Thread nD τ).loc cc0_scratch1), ((c : Thread nD τ).loc cc0_scratch1) ↦[slotSet 0]{fullShare} f)
          ∗ bigSep Finset.univ fun r => sPts c r (fs r))
      ⊢ (iprop(∃ f : Buf (Elt F) ((c : Thread nD τ).loc cc0_scratch1), ((c : Thread nD τ).loc cc0_scratch1) ↦{fullShare} f) : sProp 𝕄) := by
  iintro ⟨⟨%f0, H0⟩, Hr⟩
  iapply (Ring.pointsTo_blocks_join_exists (ℓ := (c : Thread nD τ).loc cc0_scratch1) slotSet slot_disjoint slot_cover f0)
  iapply (Entails.of_eq (sep16 _).symm)
  isplitl [H0]; · iexists f0; iexact H0
  iapply (mono15 (F := F) fun r => ?_) $$ Hr
  iintro H; iexists (fs r); unfold sPts; rw [sSlot_set]; iexact H

omit [FloatOps F] in
/-- The same of the buffer the copies arrive in. -/
theorem r_split (c : Dev nD) :
    (iprop(∃ f : Buf (Elt F) ((c : Thread nD τ).loc cc0_scratch2), ((c : Thread nD τ).loc cc0_scratch2) ↦{fullShare} f) : sProp 𝕄)
      ⊢ iprop((∃ f : Buf (Elt F) ((c : Thread nD τ).loc cc0_scratch2), ((c : Thread nD τ).loc cc0_scratch2) ↦[slotSet 0]{fullShare} f)
          ∗ bigSep Finset.univ fun r => iprop(∃ f, rPts c r f)) := by
  iintro ⟨%f, H⟩
  ihave H' := (Entails.of_eq ((Ring.pointsTo_blocks (ℓ := (c : Thread nD τ).loc cc0_scratch2) slotSet slot_disjoint slot_cover f).trans (sep16 _))) $$ H
  icases H' with ⟨H0, Hr⟩
  isplitl [H0]; · iexists f; iexact H0
  iapply (mono15 (F := F) fun r => ?_) $$ Hr
  iintro H; iexists f; unfold rPts; rw [rSlot_set]; iexact H

omit [FloatOps F] in
theorem r_join (c : Dev nD) (fs : (r : Fin 15) → Buf (Elt F) ((rSlot r).view.loc (c : Thread nD τ))) :
    iprop((∃ f : Buf (Elt F) ((c : Thread nD τ).loc cc0_scratch2), ((c : Thread nD τ).loc cc0_scratch2) ↦[slotSet 0]{fullShare} f)
          ∗ bigSep Finset.univ fun r => rPts c r (fs r))
      ⊢ (iprop(∃ f : Buf (Elt F) ((c : Thread nD τ).loc cc0_scratch2), ((c : Thread nD τ).loc cc0_scratch2) ↦{fullShare} f) : sProp 𝕄) := by
  iintro ⟨⟨%f0, H0⟩, Hr⟩
  iapply (Ring.pointsTo_blocks_join_exists (ℓ := (c : Thread nD τ).loc cc0_scratch2) slotSet slot_disjoint slot_cover f0)
  iapply (Entails.of_eq (sep16 _).symm)
  isplitl [H0]; · iexists f0; iexact H0
  iapply (mono15 (F := F) fun r => ?_) $$ Hr
  iintro H; iexists (fs r); unfold rPts; rw [rSlot_set]; iexact H

/-! ## A slot read after it was filled -/

/-- What a view of another shape writes, the view reads back as that other view's source did. -/
theorem read_write_reshape {κ κ' : Kind} {sp sp' : Space} {s s' : Shape} {e : EltTy} (v : View sig κ sp s e) (v' : View sig κ' sp' s e)
    (h : s'.numel = s.numel) (f : v.ty.Contents (Elt F)) (g : v'.ty.Contents (Elt F)) :
    v.read (Elt F) ((v.reshape s' h).write (Elt F) f ((v'.reshape s' h).read (Elt F) g) Finset.univ) = v'.read (Elt F) g := by
  funext x
  obtain ⟨y, rfl⟩ := (Shape.reshapeEquiv h).surjective x
  have hr := congrFun (View.read_write_univ (v := v.reshape s' h) f ((v'.reshape s' h).read (Elt F) g)) y
  exact hr

/-- Slot `r + 1` of the arrivals, as device `c` loads it: its columns of the product of `pv c r`, rounded. -/
theorem read_recv (c : Dev nD) (r : Fin 15) :
    rM.view.readAt (Elt F) (slotR r).toLoadRect (rvC m ρ c r) = sent m ρ (pv c r) c := by
  have h := read_write_reshape (F := F) (rM.view.slice (slotR r)) (sM.view.slice (slotR r)) squeezes_S1x256x128_S256x128.numel_eq
    (m ((c : Thread nD τ).loc cc0_scratch2)) (stC m ρ (pv c r) r)
  have h2 : (sM.view.slice (slotR r)).read (Elt F) (stC m ρ (pv c r) r) = sent m ρ (pv c r) c := by
    unfold stC
    rw [nx_pv]
    exact View.read_write_univ _ _
  exact h.trans h2

/-- The columns a device rounds into slot `r + 1` are those of the device the copy goes to. -/
theorem read_cols (c : Dev nD) (r : Fin 15) : yM.view.readAt (Elt F) (yR c r).toLoadRect (yv m ρ c) = colBlk m ρ c (nx c r) := by
  unfold colBlk
  refine View.readAt_unit_congr _ ?_ _ _ _
  rw [k0_off3_eq, k0_off1_eq]
  rfl

/-- A filled slot of the departures. -/
theorem staged (c : Dev nD) (r : Fin 15) (f : Buf (Elt F) ((sM.access (slotR r)).loc (c : Thread nD τ))) :
    ((sM.access (slotR r)).loc (c : Thread nD τ) ↦[(sSlot r).view.set]{fullShare} (sM.access (slotR r)).write (Elt F) f (sent m ρ c (nx c r)) Finset.univ : sProp 𝕄)
      = sendPay m ρ c r := by
  unfold sendPay sPts stC
  rw [← sAcc_set]
  exact View.pointsTo_write_univ_congr (c : Thread nD τ) (sM.access (slotR r)) fullShare f _ _

/-- A filled slot of the arrivals. -/
theorem landed (c : Dev nD) (r : Fin 15) (f : Buf (Elt F) ((rSlot r).view.loc (nx c r : Thread nD τ))) :
    ((rSlot r).view.loc (nx c r : Thread nD τ) ↦[(rSlot r).view.set]{fullShare} (rSlot r).view.write (Elt F) f ((sSlot r).view.read (Elt F) (stC m ρ c r)) Finset.univ : sProp 𝕄)
      = recvPay m ρ (nx c r) r := by
  unfold recvPay rPts rvC
  rw [pv_nx]
  exact View.pointsTo_write_univ_congr (nx c r : Thread nD τ) (rSlot r).view fullShare f _ _

/-! ## The result's row blocks -/

/-- Its rows of device `p` are right. -/
def Has (c p : Dev nD) (f : (cc0_stg4_0 : Ref sig .tc).ty.Contents (Elt F)) : Prop := (oM.access (oOwnR p)).read (Elt F) f = blk m ρ c p

theorem oOwn_disjoint (p p' : Dev nD) (h : p ≠ p') : Disjoint (oOwnR p).set (oOwnR p').set := by
  have hv : p.val ≠ p'.val := fun h' => h (Fin.ext h')
  refine Rect.unit_disjoint 0 ?_
  rw [k0_off2_eq, k0_off2_eq]
  show 256 * p.val + 256 ≤ 256 * p'.val ∨ 256 * p'.val + 256 ≤ 256 * p.val
  omega

/-- Writing the rows of device `p` makes them right, -/
theorem has_write (c p : Dev nD) (f : (cc0_stg4_0 : Ref sig .tc).ty.Contents (Elt F)) :
    Has m ρ c p ((oM.access (oOwnR p)).write (Elt F) f (blk m ρ c p) Finset.univ) := View.read_write_univ _ _
theorem oSet (p : Dev nD) : (oM.access (oOwnR p)).set = (oOwnR p).set := View.set_slice_whole _ _
theorem oSet_disjoint (p p' : Dev nD) (h : p ≠ p') : Disjoint (oM.access (oOwnR p)).set ((oM.access (oOwnR p')).setOn Finset.univ) := by
  rw [View.setOn_univ, oSet, oSet]; exact oOwn_disjoint p p' h
/-- and leaves the others' as they were. -/
theorem has_keep (c p p' : Dev nD) (h : p' ≠ p) (f : (cc0_stg4_0 : Ref sig .tc).ty.Contents (Elt F)) (w : (oOwnR p).shape.Idx → Elt F .f32)
    (hf : Has m ρ c p' f) : Has m ρ c p' ((oM.access (oOwnR p)).write (Elt F) f w Finset.univ) :=
  (View.read_slice_write_slice_of_disjoint (v := oM.view) (oOwnR p') (oOwnR p) f w Finset.univ (oSet_disjoint p' p h)).trans hf

/-- A store through the rows number `r` is one through the rows of `pv c r`. -/
theorem write_rows (c : Dev nD) (r : Fin 15) (f : (cc0_stg4_0 : Ref sig .tc).ty.Contents (Elt F)) (w : S256x128.Idx → Elt F .f32) :
    (oM.access (oR c r)).write (Elt F) f w Finset.univ = (oM.access (oOwnR (pv c r))).write (Elt F) f w Finset.univ := by
  have h : k0_off4 c (BitVec.ofNat 32 (1 + r.val)) = k0_off2 (pv c r) := by
    rw [k0_off4_eq, k0_off2_eq]
    have : c.val + 15 - r.val = c.val + (15 - r.val) := by have := r.isLt; omega
    rw [this]; rfl
  have key : ∀ (o o' : Fin 2 → Nat) (p : ∀ a, o a + S256x128.size a ≤ S4096x128.size a) (p' : ∀ a, o' a + S256x128.size a ≤ S4096x128.size a), o = o' →
      (oM.access (Rect.unit (s := S4096x128) o S256x128.size p)).write (Elt F) f w Finset.univ
        = (oM.access (Rect.unit (s := S4096x128) o' S256x128.size p')).write (Elt F) f w Finset.univ := by
    intro o o' p p' h; subst h; rfl
  exact key _ _ _ _ h

/-- A result whose every row block is right is the result. -/
theorem ov_of_has (c : Dev nD) (f : (cc0_stg4_0 : Ref sig .tc).ty.Contents (Elt F)) (h : ∀ p, Has m ρ c p f) : f = ov m ρ c := by
  funext i
  have hi : (i 0).val < 4096 := (i 0).isLt
  let p : Dev nD := ⟨(i 0).val / 256, by show _ < 16; omega⟩
  let j : S256x128.Idx := fun | 0 => ⟨(i 0).val % 256, Nat.mod_lt _ (by decide)⟩ | 1 => ⟨(i 1).val, (i 1).isLt⟩
  have hj : (oOwnR p).emb j = i := by
    funext a
    apply Fin.ext
    rw [ValueKit.rect_emb_unit_val]
    have ho := congrFun (k0_off2_eq p) a
    rw [ho]
    fin_cases a
    · show 256 * ((i 0).val / 256) + (i 0).val % 256 = (i 0).val
      omega
    · show 0 + (i 1).val = (i 1).val
      omega
  have hp := congrFun (h p) j
  have : f ((oOwnR p).emb j) = blk m ρ c p j := hp
  rw [hj] at this
  exact this

end Cert.K

end
-- ==== Proof.K.Steps.lean ====
/-
# One step of each loop, and the rule that makes a loop of them

`records` is what every device may use: the invariant of every cell of the mesh, and that each is at its round 0.
Each loop's body is executed once, at a distance `r + 1` the proof does not choose; `phase` repeats it.
-/
module

public import proofs.«01_k».proof.Proof.K.Slots

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a program does from a device -/

/-- From here device `c`'s program `p` runs to its end, which has `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_bind (c : Dev nD) {α β : Type} (p : Prog (TpuEff nD τ sig (Elt F) Λ₀ .tc) α) (k : α → Prog (TpuEff nD τ sig (Elt F) Λ₀ .tc) β) (Q : β → sProp 𝕄) :
    WP c (p.bind k) Q = WP c p fun a => WP c (k a) Q := wp_bind _ _ _ p k Q

/-! ## Loops -/

/-- A loop keeps what each of its steps keeps and turns each entry's `Pre` into its `Post`. -/
theorem loop_post (c : Dev nD) (f : Fin 15 → Prog (TpuEff nD τ sig (Elt F) Λ₀ .tc) PUnit) (I : List (Fin 15) → sProp 𝕄) (Pre Post : Fin 15 → sProp 𝕄)
    (h : ∀ r l, (iprop(I (r :: l) ∗ Pre r) ⊢ WP c (f r) fun _ => iprop(I l ∗ Post r) : Prop)) (l : List (Fin 15)) :
    iprop(I l ∗ bigSepL l Pre) ⊢ WP c (loop f l) fun _ => iprop(I [] ∗ bigSepL l Post) := by
  induction l with
  | nil =>
    show _ ⊢ WP c (Prog.ret PUnit.unit) _
    unfold WP
    rw [wp_ret]
    iintro H
    imodintro
    iexact H
  | cons r l ih =>
    show _ ⊢ WP c ((f r).bind fun _ => loop f l) _
    rw [WP_bind, bigSepL_cons']
    iintro ⟨HI, HP, Hl⟩
    iapply (wp_wand_r frame (wpE (defs₀ (F := F)) 𝒱₀ (c : Thread nD τ) none) Set.univ)
    isplitl [HI HP]
    · iapply (h r l)
      isplitl [HI] <;> iassumption
    iintro %a ⟨HI, HQ⟩
    iapply (wp_wand_r frame (wpE (defs₀ (F := F)) 𝒱₀ (c : Thread nD τ) none) Set.univ)
    isplitl [HI Hl]
    · iapply ih
      isplitl [HI] <;> iassumption
    iintro %b ⟨HI, HQs⟩
    isplitl [HI]; · iexact HI
    rw [bigSepL_cons']
    isplitl [HQ] <;> iassumption

/-- The loop over all fifteen distances, and what follows it. -/
theorem phase (c : Dev nD) (f : Fin 15 → Prog (TpuEff nD τ sig (Elt F) Λ₀ .tc) PUnit) (I : List (Fin 15) → sProp 𝕄) (Pre Post : Fin 15 → sProp 𝕄)
    (h : ∀ r l, (iprop(I (r :: l) ∗ Pre r) ⊢ WP c (f r) fun _ => iprop(I l ∗ Post r) : Prop))
    (k : Prog (TpuEff nD τ sig (Elt F) Λ₀ .tc) PUnit) (Q : PUnit → sProp 𝕄) :
    iprop(I all15 ∗ bigSep Finset.univ Pre ∗ ((I [] ∗ bigSep Finset.univ Post) -∗ WP c k Q)) ⊢ WP c ((loop f all15).bind fun _ => k) Q := by
  rw [WP_bind, sep15, sep15]
  iintro ⟨HI, HP, Hk⟩
  iapply (wp_wand_r frame (wpE (defs₀ (F := F)) 𝒱₀ (c : Thread nD τ) none) Set.univ)
  isplitl [HI HP]
  · iapply (loop_post c f I Pre Post h all15)
    isplitl [HI] <;> iassumption
  iintro %a H
  iapply Hk
  iexact H

/-! ## The records -/

def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (rd m ρ) (K ck) (kcell ck) := by
  unfold records; iintro ⟨H, -⟩; iapply (show _ ⊢ _ from bigSep_elim (Finset.mem_univ ck)) $$ H
theorem reached_at (K : Dev nD × CK → ℕ) (ck : Dev nD × CK) : records m ρ K ⊢ reached ER (kcell ck) 0 := by
  unfold records; iintro ⟨-, H⟩; iapply (show _ ⊢ _ from bigSep_elim (Finset.mem_univ ck)) $$ H

variable (K : Dev nD × CK → ℕ) (c : Dev nD)

/-! ## A signal -/

/-- A device in the middle of its signals: it owes those of `l` and all its copies. -/
def sigI (l : List (Fin 15)) : sProp 𝕄 := iprop(records m ρ K ∗ ∃ W, owes (c : Thread nD τ) (owB c l) W)
/-- Signal `r` pays the duty of `nx c r` that hands it this device's slot for the copy from there. -/
def sigPre (r : Fin 15) : sProp 𝕄 := iprop(dutyTok ER (barCell (nx c r)) 0 (Fin.rev r) ∗ ∃ f, rPts c (Fin.rev r) f)

theorem sig_step (r : Fin 15) (l : List (Fin 15)) :
    iprop(sigI m ρ K c (r :: l) ∗ sigPre (F := F) c r) ⊢ WP c (sigStep c r) fun _ => iprop(sigI m ρ K c l ∗ emp) := by
  unfold sigI sigPre sigStep
  rw [sigDev_eq]
  iintro ⟨⟨#HR, %W, HO⟩, Ht, Hs⟩
  iapply (Rounds.wp_signal 𝒱₀ ER (rd m ρ) (c : Thread nD τ) none (dst := (nx c r : Thread nD τ)) (κ := K (nx c r, .inl ()))
      (d := Fin.rev r) (by rw [duties_bar]; exact Finset.mem_univ _) ((amount_bar m ρ (nx c r) _).trans (by decide)) () (owB c l) rfl)
    $$ [HO Ht Hs]
  · isplitr; · iapply (inv_at m ρ K (nx c r, .inl ())) $$ HR
    isplitl [HO]; · iexact HO
    isplitl [Ht]; · iexact Ht
    isplitl [Hs]
    · rw [payload_bar]; unfold barPay; rw [nx_rev]; iexact Hs
    iapply (reached_at m ρ K (nx c r, .inl ())) $$ HR
  iintro HO
  rw [wp_ret]
  imodintro
  isplitl [HO]
  · isplitr; · iexact HR
    iexists W; iexact HO
  iempintro

/-! ## A slot filled -/

def stageI (_ : List (Fin 15)) : sProp 𝕄 := ((c : Thread nD τ).loc cc0_scratch0) ↦{fullShare} yv m ρ c

theorem stage_step (r : Fin 15) (l : List (Fin 15)) :
    iprop(stageI m ρ c (r :: l) ∗ (∃ f, sPts c r f)) ⊢ WP c (stageStep c r) fun _ => iprop(stageI m ρ c l ∗ sendPay m ρ c r) := by
  unfold stageI stageStep sPts
  iintro ⟨Hy, %f, Hs⟩
  iapply (wp_load 𝒱₀ (c : Thread nD τ) none Set.univ (m := yM) (Finset.subset_univ _)) $$ Hy; iintro Hy
  iapply (wp_load_rect 𝒱₀ (c : Thread nD τ) none Set.univ (m := sM) (r := slotR r) (S := (sSlot r).view.set) (by rw [sAcc_set])) $$ Hs; iintro Hs
  iapply (wp_store 𝒱₀ (c : Thread nD τ) none Set.univ (m := sM) (r := slotR r) (Mk := Finset.univ) (S := (sSlot r).view.set)
    (by rw [View.setOn_univ, sAcc_set])) $$ Hs; iintro Hs
  rw [read_cols, wp_ret]
  imodintro
  isplitl [Hy]; · iexact Hy
  rw [← staged m ρ c r f]; unfold sent; iexact Hs

/-! ## A copy -/

/-- A device in the middle of its copies: it owes those of `l`. -/
def sendI (l : List (Fin 15)) : sProp 𝕄 := iprop(records m ρ K ∗ ∃ W, owes (c : Thread nD τ) (owR c l) W)
def sendPre (r : Fin 15) : sProp 𝕄 :=
  iprop(sendPay m ρ c r ∗ barPay (F := F) c r ∗ dutyTok ER (sendCell c r) 0 0 ∗ dutyTok ER (recvCell (nx c r) r) 0 0)

/-- The copy's rule at these cells, the device it goes to given by an equation. -/
theorem wp_copy (n : Dev nD) (r : Fin 15) (hn : n = nx c r) (l : List (Fin 15))
    {hsc : (rSlot r : Memref sig (Dev.tc n : Thread nD τ).2.kind .vmem S256x128 .bf16).view.ref.isScScratch = false}
    {hsrc : (sSlot r).view.WordExact} {hdst : (rSlot r).view.WordExact}
    {hsem : DmaTarget.Typed .vmem (.dma (recvS r)) (.remote (Dev.tc n : Thread nD τ) (rSlot r) (.dma (sendS r)) hsc)}
    {α : Type} {Q : α → sProp 𝕄} {k : PUnit → Prog (TpuEff nD τ sig (Elt F) Λ₀ .tc) α}
    (fn : Buf (Elt F) ((rSlot r).view.loc (nx c r : Thread nD τ))) (W : Waits sig Unit) :
    iprop(cellInv ER (rd m ρ) (K (c, .inr (.inl r))) (sendCell c r) ∗ cellInv ER (rd m ρ) (K (nx c r, .inr (.inr r))) (recvCell (nx c r) r)
        ∗ sPts c r (stC m ρ c r) ∗ rPts (nx c r) r fn
        ∗ owes (c : Thread nD τ) (owR c (r :: l)) W
        ∗ dutyTok ER (sendCell c r) 0 0 ∗ reached ER (sendCell c r) 0
        ∗ dutyTok ER (recvCell (nx c r) r) 0 0 ∗ reached ER (recvCell (nx c r) r) 0)
      ⊢ iprop(((cred (tallyAt (sendCell c r) () N) ∗ owes (c : Thread nD τ) (owR c l) W) -∗ WP c (k ⟨⟩) Q)
          -∗ WP c (.op (.enqueueDma (sSlot r) (.remote (Dev.tc n : Thread nD τ) (rSlot r) (.dma (sendS r)) hsc) (.dma (recvS r)) hsrc hdst hsem) k) Q) := by
  subst hn
  unfold sPts rPts
  exact Rounds.wp_send_pointsTo 𝒱₀ ER (rd m ρ) (c : Thread nD τ) none (κ₁ := K (c, .inr (.inl r))) (κ₂ := K (nx c r, .inr (.inr r)))
    (r₁ := 0) (r₂ := 0) (d₁ := 0) (d₂ := 0) (fd := fn)
    (by rw [duties_send]; exact Finset.mem_singleton_self _) (by rw [duties_recv]; exact Finset.mem_singleton_self _)
    () () N rfl (amount_send m ρ c r 0) (amount_recv m ρ (nx c r) r 0) (owR c l) rfl (W := W)
    (by rw [payload_send]; exact BI.Entails.refl _)
    (by rw [payload_recv]; exact Entails.of_eq (landed m ρ c r fn))

theorem send_step (r : Fin 15) (l : List (Fin 15)) :
    iprop(sendI m ρ K c (r :: l) ∗ sendPre m ρ c r) ⊢ WP c (sendStep c r) fun _ => iprop(sendI m ρ K c l ∗ cred (tallyAt (sendCell c r) () N)) := by
  unfold sendI sendPre sendStep sendPay barPay
  iintro ⟨⟨#HR, %W, HO⟩, Hs, ⟨%f, Hd⟩, Hts, Htr⟩
  iapply (wp_copy m ρ K c _ r (dstDev_eq c r) l f W) $$ [HO Hs Hd Hts Htr]
  · isplitr; · iapply (inv_at m ρ K (c, .inr (.inl r))) $$ HR
    isplitr; · iapply (inv_at m ρ K (nx c r, .inr (.inr r))) $$ HR
    isplitl [Hs]; · iexact Hs
    isplitl [Hd]; · iexact Hd
    isplitl [HO]; · iexact HO
    isplitl [Hts]; · iexact Hts
    isplitr; · iapply (reached_at m ρ K (c, .inr (.inl r))) $$ HR
    isplitl [Htr]; · iexact Htr
    iapply (reached_at m ρ K (nx c r, .inr (.inr r))) $$ HR
  iintro ⟨Hc, HO⟩
  unfold WP
  rw [wp_ret]
  imodintro
  isplitl [HO]
  · isplitr; · iexact HR
    iexists W; iexact HO
  iexact Hc

/-! ## The two waits of a distance -/

def waitI (_ : List (Fin 15)) : sProp 𝕄 := iprop(records m ρ K ∗ ∃ W, owes (c : Thread nD τ) (0 : CellTallies nD τ sig Unit) W)
def waitPre (r : Fin 15) : sProp 𝕄 :=
  iprop(cred (tallyAt (sendCell c r) () N) ∗ cred (tallyAt (recvCell c r) () N) ∗ atPos ER (sendCell c r) 0 ∅ 0 ∗ atPos ER (recvCell c r) 0 ∅ 0)
def waitPost (r : Fin 15) : sProp 𝕄 :=
  iprop(sendPay m ρ c r ∗ recvPay m ρ c r ∗ semVal (sendCell c r) 0 ∗ semVal (recvCell c r) 0)

theorem wait_step (r : Fin 15) (l : List (Fin 15)) :
    iprop(waitI m ρ K c (r :: l) ∗ waitPre (F := F) c r) ⊢ WP c (waitStep r) fun _ => iprop(waitI m ρ K c l ∗ waitPost m ρ c r) := by
  unfold waitI waitPre waitPost waitStep
  iintro ⟨⟨#HR, %W, HO⟩, HcS, HcV, HaS, HaV⟩
  ihave #HIs := (inv_at m ρ K (c, .inr (.inl r))) $$ HR
  ihave #HIv := (inv_at m ρ K (c, .inr (.inr r))) $$ HR
  iapply (Rounds.wp_wait_rest_token 𝒱₀ ER (rd m ρ) (c : Thread nD τ) none (κ := K (c, .inr (.inl r)))
      (wpE_waitDma2_eq 𝒱₀ (c : Thread nD τ) none Set.univ) (Set.mem_univ _) () (O := 0) (W := W) (R := 0) (m := 0) (T := ∅)
      (by rw [Nat.zero_add, expect_send])) $$ [HcS HO HaS]
  · isplitr; · iexact HIs
    isplitl [HcS]; · iexact HcS
    isplitl [HO]; · iexact HO
    isplitr; · rw [MayWait_zero]; iempintro
    iexact HaS
  iintro ⟨HO, HaS, -, Hpay⟩
  ihave Hs := (Entails.of_eq (rest_send m ρ c r)) $$ Hpay
  iapply (Rounds.wp_wait_rest_token 𝒱₀ ER (rd m ρ) (c : Thread nD τ) none (κ := K (c, .inr (.inr r)))
      (wpE_waitDma2_eq 𝒱₀ (c : Thread nD τ) none Set.univ) (Set.mem_univ _) () (O := 0) (W := insert (SemLoc.dma (sendS r), ()) W) (R := 0) (m := 0) (T := ∅)
      (by rw [Nat.zero_add, expect_recv])) $$ [HcV HO HaV]
  · isplitr; · iexact HIv
    isplitl [HcV]; · iexact HcV
    isplitl [HO]; · iexact HO
    isplitr; · rw [MayWait_zero]; iempintro
    iexact HaV
  iintro ⟨HO, HaV, -, Hpay⟩
  ihave Hv := (Entails.of_eq (rest_recv m ρ c r)) $$ Hpay
  imod (Rounds.cell_close ER (rd m ρ) (Set.mem_univ (K (c, .inr (.inl r)))) (fun h => h) (R := 0 + 1) (duties_later m ρ (sendCell c r))) $$ [HaS] with HzS
  · isplitr; · iexact HIs
    iexact HaS
  imod (Rounds.cell_close ER (rd m ρ) (Set.mem_univ (K (c, .inr (.inr r)))) (fun h => h) (R := 0 + 1) (duties_later m ρ (recvCell c r))) $$ [HaV] with HzV
  · isplitr; · iexact HIv
    iexact HaV
  rw [wp_ret]
  imodintro
  isplitl [HO]
  · isplitr; · iexact HR
    iexists _; iexact HO
  isplitl [Hs]; · iexact Hs
  isplitl [Hv]; · iexact Hv
  isplitl [HzS] <;> iassumption

/-! ## A row block put -/

/-- The result in the middle of its fifteen stores: every row block is right but those of `l`. -/
def outI (l : List (Fin 15)) : sProp 𝕄 :=
  iprop(∃ f : Buf (Elt F) ((c : Thread nD τ).loc cc0_stg4_0), ⌜∀ p, (∀ r ∈ l, p ≠ pv c r) → Has m ρ c p f⌝ ∗ ((c : Thread nD τ).loc cc0_stg4_0) ↦{fullShare} f)

theorem out_step (r : Fin 15) (l : List (Fin 15)) :
    iprop(outI m ρ c (r :: l) ∗ recvPay m ρ c r) ⊢ WP c (outStep c r) fun _ => iprop(outI m ρ c l ∗ recvPay m ρ c r) := by
  unfold outI outStep recvPay rPts
  iintro ⟨⟨%f, %hf, Ho⟩, Hv⟩
  iapply (wp_load_rect 𝒱₀ (c : Thread nD τ) none Set.univ (m := rM) (r := slotR r) (S := (rSlot r).view.set) (by rw [rAcc_set])) $$ Hv; iintro Hv
  iapply (wp_load 𝒱₀ (c : Thread nD τ) none Set.univ (m := oM) (Finset.subset_univ _)) $$ Ho; iintro Ho
  iapply (wp_store 𝒱₀ (c : Thread nD τ) none Set.univ (m := oM) (r := oR c r) (Mk := Finset.univ) (Finset.subset_univ _)) $$ Ho; iintro Ho
  rw [wp_ret]
  imodintro
  isplitl [Ho]
  · iexists _
    isplitr
    rotate_left
    · iexact Ho
    ipureintro
    intro p hp
    have hr : (rM.access (slotR r)).read (Elt F) (rvC m ρ c r) = sent m ρ (pv c r) c := read_recv m ρ c r
    rw [hr, write_rows]
    have hb : wid (sent m ρ (pv c r) c) = blk m ρ c (pv c r) := by unfold blk; rw [if_neg (pv_ne c r)]
    rw [hb]
    by_cases h : p = pv c r
    · subst h; exact has_write m ρ c _ f
    · exact has_keep m ρ c _ p h f _ (hf p fun r' hr' => by
        rcases List.mem_cons.mp hr' with rfl | h'
        · exact h
        · exact hp r' h')
  iexact Hv

end Cert.K

end
-- ==== Proof.K.Body.lean ====
/-
# The body, from what a device starts with to what it leaves

The five loops in a row, each by its step (`Steps`), with the wait on the barrier and the product between them.
-/
module

public import proofs.«01_k».proof.Proof.K.Steps

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The kernel's semaphores nothing uses: the first of each array of sixteen, and four of its own. -/
abbrev spareSem : List (SemLoc sig) :=
  [.dma ((cc0_scratch3.slice (Rect.unit (s := S16) ![0] S1.size (by decide))).squeeze S_ squeezes_S1_S_ : DmaSems sig S_).sem,
   .dma ((cc0_scratch4.slice (Rect.unit (s := S16) ![0] S1.size (by decide))).squeeze S_ squeezes_S1_S_ : DmaSems sig S_).sem,
   .reg ((cc0_scratch5.slice (Rect.unit (s := S4) ![0] S1.size (by decide))).squeeze S_ squeezes_S1_S_ : Sems sig S_).sem,
   .reg ((cc0_scratch5.slice (Rect.unit (s := S4) ![1] S1.size (by decide))).squeeze S_ squeezes_S1_S_ : Sems sig S_).sem,
   .reg ((cc0_scratch5.slice (Rect.unit (s := S4) ![2] S1.size (by decide))).squeeze S_ squeezes_S1_S_ : Sems sig S_).sem,
   .reg ((cc0_scratch5.slice (Rect.unit (s := S4) ![3] S1.size (by decide))).squeeze S_ squeezes_S1_S_ : Sems sig S_).sem]
def spare (c : Dev nD) : sProp 𝕄 := bigSepL spareSem fun sm => semVal ((c : Thread nD τ), sm) 0

/-- The tokens of the duties device `c` pays. -/
def payToks (c : Dev nD) : sProp 𝕄 :=
  iprop((bigSep Finset.univ fun r : Fin 15 => dutyTok ER (barCell (nx c r)) 0 (Fin.rev r))
    ∗ (bigSep Finset.univ fun r : Fin 15 => dutyTok ER (sendCell c r) 0 0)
    ∗ bigSep Finset.univ fun r : Fin 15 => dutyTok ER (recvCell (nx c r) r) 0 0)
/-- Its positions in its own cells' rounds. -/
def poss (c : Dev nD) : sProp 𝕄 :=
  iprop(atPos ER (barCell c) 0 ∅ 0 ∗ (bigSep Finset.univ fun r : Fin 15 => atPos ER (sendCell c r) 0 ∅ 0)
    ∗ bigSep Finset.univ fun r : Fin 15 => atPos ER (recvCell c r) 0 ∅ 0)

def ghost (K : Dev nD × CK → ℕ) (c : Dev nD) : sProp 𝕄 := iprop(records m ρ K ∗ poss c ∗ payToks c ∗ spare c)

def start (c : Dev nD) : sProp 𝕄 :=
  iprop((∃ K, ghost m ρ K c) ∗ cred (tallyAt (barCell c) () 15) ∗ (bigSep Finset.univ fun r : Fin 15 => cred (tallyAt (recvCell c r) () N)) ∗ levAts L lv)

/-- The kernel's three scratch buffers, at whatever contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch c)
/-- After the body: the scratch buffers, and every semaphore at zero. -/
def Φ₁ (c : Dev nD) : sProp 𝕄 :=
  iprop(scratch c ∗ semVal (barCell c) 0 ∗ (bigSep Finset.univ fun r : Fin 15 => semVal (sendCell c r) 0)
    ∗ (bigSep Finset.univ fun r : Fin 15 => semVal (recvCell c r) 0) ∗ spare c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => ov m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

def t₀ : Fin cfg0.N := t0_0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ c ∗ (dats m ρ 0 c).owesAt () t₀.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (ov m ρ c))

theorem hz : (![0, 0] : Fin 2 → Nat) = fun _ => 0 := funext fun a => by fin_cases a <;> rfl

theorem read_x (f : (cc0_stg0_0 : Ref sig .tc).ty.Contents (Elt F)) :
    xM.view.readAt (Elt F) (Rect.unit (s := S256x4096) ![0, 0] S256x4096.size inb_S256x4096_S256x4096_0_0).toLoadRect f = f :=
  Memref.readAt_unit_zero (Elt F) cc0_stg0_0 hz _ f
theorem read_w (f : (cc0_stg1_0 : Ref sig .tc).ty.Contents (Elt F)) :
    wM.view.readAt (Elt F) (Rect.unit (s := S4096x2048) ![0, 0] S4096x2048.size inb_S4096x2048_S4096x2048_0_0).toLoadRect f = f :=
  Memref.readAt_unit_zero (Elt F) cc0_stg1_0 hz _ f
theorem write_y (f w : (cc0_scratch0 : Ref sig .tc).ty.Contents (Elt F)) :
    (yM.access (Rect.unit (s := S256x2048) ![0, 0] S256x2048.size inb_S256x2048_S256x2048_0_0)).write (Elt F) f w Finset.univ = w :=
  Memref.write_access_unit_zero_univ (Elt F) cc0_scratch0 hz _ f w

/-- The product and the device's own rows: what lies between the barrier and the copies. -/
theorem middle_step (c : Dev nD) (k : Prog (TpuEff nD τ sig (Elt F) Λ₀ .tc) PUnit) (Q : PUnit → sProp 𝕄)
    (fy : Buf (Elt F) ((c : Thread nD τ).loc cc0_scratch0)) (fo : Buf (Elt F) ((c : Thread nD τ).loc cc0_stg4_0)) :
    iprop((((c : Thread nD τ).loc cc0_stg0_0) ↦{fullShare} xstg m ρ c) ∗ (((c : Thread nD τ).loc cc0_stg1_0) ↦{fullShare} wstg m ρ c)
        ∗ (((c : Thread nD τ).loc cc0_stg2_0) ↦{fullShare} sxstg m ρ c) ∗ (((c : Thread nD τ).loc cc0_stg3_0) ↦{fullShare} swstg m ρ c)
        ∗ (((c : Thread nD τ).loc cc0_scratch0) ↦{fullShare} fy) ∗ (((c : Thread nD τ).loc cc0_stg4_0) ↦{fullShare} fo)
        ∗ (((((c : Thread nD τ).loc cc0_stg0_0) ↦{fullShare} xstg m ρ c) ∗ (((c : Thread nD τ).loc cc0_stg1_0) ↦{fullShare} wstg m ρ c)
            ∗ (((c : Thread nD τ).loc cc0_stg2_0) ↦{fullShare} sxstg m ρ c) ∗ (((c : Thread nD τ).loc cc0_stg3_0) ↦{fullShare} swstg m ρ c)
            ∗ stageI m ρ c all15 ∗ outI m ρ c all15) -∗ WP c k Q))
      ⊢ WP c (middle c k) Q := by
  unfold middle
  iintro ⟨Hx, Hw, Hsx, Hsw, Hy, Ho, Hk⟩
  iapply (wp_smemLoadElt 𝒱₀ (c : Thread nD τ) none Set.univ (m := sxM) (r := Rect.unit (s := S1) ![0] S1.size inb_S1_S1_0) (Finset.subset_univ _)) $$ Hsx; iintro Hsx
  iapply (wp_smemLoadElt 𝒱₀ (c : Thread nD τ) none Set.univ (m := swM) (r := Rect.unit (s := S1) ![0] S1.size inb_S1_S1_0) (Finset.subset_univ _)) $$ Hsw; iintro Hsw
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [read_x, read_w]
  iapply (wp_load 𝒱₀ (c : Thread nD τ) none Set.univ (m := yM) (Finset.subset_univ _)) $$ Hy; iintro Hy
  iapply (wp_store 𝒱₀ (c : Thread nD τ) none Set.univ (m := yM) (r := Rect.unit (s := S256x2048) ![0, 0] S256x2048.size inb_S256x2048_S256x2048_0_0) (Mk := Finset.univ) (Finset.subset_univ _)) $$ Hy; iintro Hy
  rw [write_y]
  iapply (wp_load 𝒱₀ (c : Thread nD τ) none Set.univ (m := yM) (Finset.subset_univ _)) $$ Hy; iintro Hy
  iapply (wp_load 𝒱₀ (c : Thread nD τ) none Set.univ (m := oM) (Finset.subset_univ _)) $$ Ho; iintro Ho
  iapply (wp_store 𝒱₀ (c : Thread nD τ) none Set.univ (m := oM) (r := oOwnR c) (Mk := Finset.univ) (Finset.subset_univ _)) $$ Ho; iintro Ho
  iapply Hk
  isplitl [Hx]; · iexact Hx
  isplitl [Hw]; · iexact Hw
  isplitl [Hsx]; · iexact Hsx
  isplitl [Hsw]; · iexact Hsw
  isplitl [Hy]; · unfold stageI yv; iexact Hy
  unfold outI
  iexists _
  isplitr
  rotate_left
  · iexact Ho
  ipureintro
  intro p hp
  rcases pv_surj c p with rfl | ⟨r, rfl⟩
  · have h := has_write m ρ p p fo
    have hb : blk m ρ p p = colBlk m ρ p p := by unfold blk; rw [if_pos rfl]
    rw [hb] at h
    exact h
  · exact absurd rfl (hp r (by fin_cases r <;> decide))

omit [FloatOps F] in
/-- Slots handed out in the order of the signals. -/
theorem sep_rev (Φ : Fin 15 → sProp 𝕄) : bigSep Finset.univ Φ = bigSep Finset.univ fun r => Φ (Fin.rev r) := bigSep_univ_equiv Fin.revPerm Φ

set_option maxHeartbeats 800000 in
/-- The body, from `bodyPre` to `bodyPost`. -/
theorem sound_body (c : Dev nD) (Kt : PUnit → sProp 𝕄) :
    iprop(bodyPre m ρ c ∗ (bodyPost m ρ c -∗ Kt ⟨⟩)) ⊢ WP c printed Kt := by
  rw [body_eq_loops]
  unfold loops bodyPre Φ₀ start ghost poss payToks scratch
  unfold WP
  rw [wp_deviceId]
  iintro ⟨⟨⟨⟨⟨%K, #HR, ⟨HaB, HaS, HaV⟩, ⟨HtB, HtS, HtV⟩, Hsp⟩, HcB, HcV, #Hlev⟩, ⟨%fy, Hy⟩, Hs, Hr⟩,
    Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩, Hk⟩
  have h0 : g0 = xstg m ρ c := by rw [hg0]; unfold Dat.before; rw [if_pos (fetch0_0 t₀)]; rfl
  have h1 : g1 = wstg m ρ c := by rw [hg1]; unfold Dat.before; rw [if_pos (fetch0_1 t₀)]; rfl
  have h2 : g2 = sxstg m ρ c := by rw [hg2]; unfold Dat.before; rw [if_pos (fetch0_2 t₀)]; rfl
  have h3 : g3 = swstg m ρ c := by rw [hg3]; unfold Dat.before; rw [if_pos (fetch0_3 t₀)]; rfl
  subst h0 h1 h2 h3
  unfold Dat.owesAt Pipeline.owesWithin
  icases Ho with ⟨%W, %hW, HO⟩
  rw [show (dats m ρ 0 c).owed t₀.castSucc = owB c all15 from rfl]
  ihave Hs2 := (s_split (F := F) c) $$ Hs
  icases Hs2 with ⟨Hs0, Hs⟩
  ihave Hr2 := (r_split (F := F) c) $$ Hr
  icases Hr2 with ⟨Hr0, Hr⟩
  ihave Hr := (Entails.of_eq (sep_rev (F := F) _)) $$ Hr
  -- the signals
  iapply (phase c (sigStep c) (sigI m ρ K c) (sigPre c) (fun _ => iprop(emp)) (sig_step m ρ K c))
  isplitl [HO]
  · unfold sigI; isplitr; · iexact HR
    iexists W; iexact HO
  isplitl [HtB Hr]
  · unfold sigPre; rw [bigSep_sep']
    isplitl [HtB] <;> iassumption
  unfold sigI
  iintro ⟨⟨-, %W, HO⟩, -⟩
  -- the barrier
  iapply (Rounds.wp_wait_rest_token 𝒱₀ ER (rd m ρ) (c : Thread nD τ) none (κ := K (c, .inl ()))
      (wpE_semWait_eq 𝒱₀ (c : Thread nD τ) none Set.univ) (Set.mem_univ _) () (O := owR c all15) (W := W) (R := 0) (m := 0) (T := ∅)
      (by rw [expect_bar]; decide)) $$ [HcB HO HaB]
  · isplitr; · iapply (inv_at m ρ K (c, .inl ())) $$ HR
    isplitl [HcB]; · iexact HcB
    isplitl [HO]; · iexact HO
    isplitr; · iapply (mayWait_bar c) $$ Hlev
    iexact HaB
  iintro ⟨HO, HaB, -, Hpay⟩
  ihave Hslots := (Entails.of_eq (rest_bar m ρ c)) $$ Hpay
  -- the product
  iapply (middle_step m ρ c _ _ fy g4)
  isplitl [Hx]; · iexact Hx
  isplitl [Hw]; · iexact Hw
  isplitl [Hsx]; · iexact Hsx
  isplitl [Hsw]; · iexact Hsw
  isplitl [Hy]; · iexact Hy
  isplitl [Hout]; · iexact Hout
  iintro ⟨Hx, Hw, Hsx, Hsw, HIy, HIo⟩
  -- the slots filled
  iapply (phase c (stageStep c) (stageI m ρ c) (fun r => iprop(∃ f, sPts c r f)) (sendPay m ρ c) (stage_step m ρ c))
  isplitl [HIy]; · iexact HIy
  isplitl [Hs]; · iexact Hs
  iintro ⟨HIy, Hs⟩
  -- the copies
  iapply (phase c (sendStep c) (sendI m ρ K c) (sendPre m ρ c) (fun r => cred (tallyAt (sendCell c r) () N)) (send_step m ρ K c))
  isplitl [HO]
  · unfold sendI; isplitr; · iexact HR
    iexists _; iexact HO
  isplitl [Hs Hslots HtS HtV]
  · unfold sendPre; simp only [bigSep_sep']
    isplitl [Hs]; · iexact Hs
    isplitl [Hslots]; · iexact Hslots
    isplitl [HtS] <;> iassumption
  unfold sendI
  iintro ⟨⟨-, %W, HO⟩, HcS⟩
  -- their waits
  iapply (phase c waitStep (waitI m ρ K c) (waitPre c) (waitPost m ρ c) (wait_step m ρ K c))
  isplitl [HO]
  · unfold waitI; isplitr; · iexact HR
    iexists W; iexact HO
  isplitl [HcS HcV HaS HaV]
  · unfold waitPre; simp only [bigSep_sep']
    isplitl [HcS]; · iexact HcS
    isplitl [HcV]; · iexact HcV
    isplitl [HaS] <;> iassumption
  unfold waitI waitPost
  simp only [bigSep_sep']
  iintro ⟨⟨-, %W, HO⟩, Hs, Hr, HzS, HzV⟩
  imod (Rounds.cell_close ER (rd m ρ) (Set.mem_univ (K (c, .inl ()))) (fun h => h) (R := 0 + 1) (duties_later m ρ (barCell c))) $$ [HaB] with HzB
  · isplitr; · iapply (inv_at m ρ K (c, .inl ())) $$ HR
    iexact HaB
  -- the row blocks put
  iapply (wp_wand_r frame (wpE (defs₀ (F := F)) 𝒱₀ (c : Thread nD τ) none) Set.univ)
  isplitl [HIo Hr]
  · iapply (loop_post c (outStep c) (outI m ρ c) (recvPay m ρ c) (recvPay m ρ c) (out_step m ρ c) all15)
    isplitl [HIo]; · iexact HIo
    iapply (Entails.of_eq (sep15 (F := F) _)) $$ Hr
  unfold outI
  iintro %a ⟨⟨%fo, %hfo, Hout⟩, Hr⟩
  have hov : fo = ov m ρ c := ov_of_has m ρ c fo fun p => hfo p fun r hr => absurd hr List.not_mem_nil
  subst hov
  iapply Hk
  unfold bodyPost Φ₁ scratch Dat.owesAt Pipeline.owesWithin
  rw [show (dats m ρ 0 c).owed t₀.succ = 0 from rfl]
  isplitl [HIy Hs0 Hs Hr0 Hr HzB HzS HzV Hsp]
  · isplitl [HIy Hs0 Hs Hr0 Hr]
    · isplitl [HIy]; · iexists _; unfold stageI; iexact HIy
      isplitl [Hs0 Hs]
      · iapply (s_join c (stC m ρ c))
        isplitl [Hs0]; · iexact Hs0
        unfold sendPay; iexact Hs
      iapply (r_join c (rvC m ρ c))
      isplitl [Hr0]; · iexact Hr0
      iapply (Entails.of_eq (sep15 (F := F) _).symm)
      unfold recvPay; iexact Hr
    isplitl [HzB]; · iexact HzB
    isplitl [HzS]; · iexact HzS
    isplitl [HzV] <;> iassumption
  isplitl [HO]
  · iexists W
    isplitr; · ipureintro; exact fun _ _ => Or.inl trivial
    iexact HO
  isplitl [Hx]; · (iexists _; isplitr; · (ipureintro; rfl)); iexact Hx
  isplitl [Hw]; · (iexists _; isplitr; · (ipureintro; rfl)); iexact Hw
  isplitl [Hsx]; · (iexists _; isplitr; · (ipureintro; rfl)); iexact Hsx
  isplitl [Hsw]; · (iexists _; isplitr; · (ipureintro; rfl)); iexact Hsw
  iexists _; isplitr; · (ipureintro; rfl)
  iexact Hout

set_option maxRecDepth 20000 in
/-- The launch's obligation on the body, on device `c`. -/
theorem body_obligation (c : Dev nD) : BodyObligation (dats (F := F) m ρ 0 c) (defs₀ (F := F)) 𝒱₀ () Set.univ := fun t => by
  rw [show t = t₀ from fin_N0 t]
  rw [bigSep_W0, bigSep_W0]
  simp only [owns_whole_eq]
  show bodyPre m ρ c ⊢ WP c printed (fun _ => bodyPost m ρ c)
  iintro H
  iapply (sound_body m ρ c fun _ => bodyPost m ρ c)
  isplitl [H]; · iexact H
  iintro H; iexact H

end Cert.K

end
-- ==== Proof.K.Launch.lean ====
/-
# The launch: from the machine's start to `run_main`

What is minted at launch (`u₀`), how the global step deals it out among the sixteen devices (`glob`), that the credit
at launch is what the devices owe (`creds`), and the run itself.
-/
module

public import proofs.«01_k».proof.Proof.K.Body
public import Idealize.ShloMosaic.Lib.Pipeline.CollectiveSegs

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores, cells and tokens -/

/-- The kernel's own semaphores: those of the copies, and the six nothing uses. -/
abbrev osem : (Fin 15 ⊕ Fin 15) ⊕ Fin 6 → SemLoc sig
  | .inl (.inl r) => .dma (sendS r)
  | .inl (.inr r) => .dma (recvS r)
  | .inr j => spareSem.get j

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  rintro (⟨⟩ | r | r) (⟨⟩ | r' | r') h
  · rfl
  · cases h
  · cases h
  · cases h
  · rw [sendS_inj (SemLoc.dma.inj h)]
  · exact absurd (SemLoc.dma.inj h) (sendS_ne_recvS r r')
  · cases h
  · exact absurd (SemLoc.dma.inj h).symm (sendS_ne_recvS r' r)
  · rw [recvS_inj (SemLoc.dma.inj h)]

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

def meshCells : Finset (GSem nD τ sig) := Finset.univ.map ⟨kcell, kcell_injective⟩

/-- The tokens as minted: for each device its barrier's fifteen, and the one of each departure and arrival. -/
abbrev tokOf (cj : Dev nD × (Fin 15 ⊕ (Fin 15 ⊕ Fin 15))) : GSem nD τ sig × ℕ × Fin 15 := match cj.2 with
  | .inl d => (barCell cj.1, 0, d)
  | .inr (.inl r) => (sendCell cj.1 r, 0, 0)
  | .inr (.inr r) => (recvCell cj.1 r, 0, 0)

theorem tokOf_injective : Function.Injective tokOf := by
  rintro ⟨c, j⟩ ⟨c', j'⟩ h
  have h1 : c = c' := by
    have := congrArg (fun x : GSem nD τ sig × ℕ × Fin 15 => x.1.1.1) h
    rcases j with _ | _ | _ <;> rcases j' with _ | _ | _ <;> exact this
  subst h1
  have h2 := congrArg (fun x : GSem nD τ sig × ℕ × Fin 15 => x.1.2) h
  have h3 := congrArg (fun x : GSem nD τ sig × ℕ × Fin 15 => x.2.2) h
  rcases j with d | r | r <;> rcases j' with d' | r' | r'
  · have h4 : d = d' := h3
    rw [h4]
  · cases h2
  · cases h2
  · cases h2
  · rw [sendS_inj (SemLoc.dma.inj h2)]
  · exact absurd (SemLoc.dma.inj h2) (sendS_ne_recvS r r')
  · cases h2
  · exact absurd (SemLoc.dma.inj h2).symm (sendS_ne_recvS r' r)
  · rw [recvS_inj (SemLoc.dma.inj h2)]

def meshToks : Finset (GSem nD τ sig × ℕ × Fin 15) := Finset.univ.map ⟨tokOf, tokOf_injective⟩

def u₀ : UU := (initOf (Pipeline.cells cfgs cellOf_inj) (Pipeline.launchToks cfgs cellOf_inj), initOf meshCells meshToks)

/-- The tokens of device `c`'s own cells. -/
def toks (c : Dev nD) : sProp 𝕄 :=
  iprop((bigSep Finset.univ fun d : Fin 15 => dutyTok ER (barCell c) 0 d)
    ∗ (bigSep Finset.univ fun r : Fin 15 => dutyTok ER (sendCell c r) 0 0)
    ∗ bigSep Finset.univ fun r : Fin 15 => dutyTok ER (recvCell c r) 0 0)

/-- What the launch deals device `c`, -/
def G (c : Dev nD) : sProp 𝕄 :=
  iprop((bigSep Finset.univ fun k : CK => roundState ER (rd m ρ) (kcell (c, k)) 0)
    ∗ (bigSep Finset.univ fun k : CK => iprop(atPos ER (kcell (c, k)) 0 ∅ 0 ∗ reached ER (kcell (c, k)) 0)) ∗ toks c)
/-- and what the global step makes of it. -/
def G' (c : Dev nD) : sProp 𝕄 := iprop(∃ K, ghost m ρ K c)

omit [FloatOps F] in
/-- Over a device's cells: the barrier, the departures, the arrivals. -/
theorem sepCK (Φ : CK → sProp 𝕄) : bigSep Finset.univ Φ
    = iprop(Φ (.inl ()) ∗ (bigSep Finset.univ fun r : Fin 15 => Φ (.inr (.inl r))) ∗ bigSep Finset.univ fun r : Fin 15 => Φ (.inr (.inr r))) := by
  rw [bigSep_univ_sum, bigSep_univ_sum, bigSep_univ_of_subsingleton (i := ())]; rfl

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : CK => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_sum, bigSep_univ_sum]; rfl
  iintro HX
  imod (Rounds.fund ER (rd m ρ) meshCells meshToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun r : Fin 15 => semVal (sendCell c r) 0) ∗ bigSep Finset.univ fun r : Fin 15 => semVal (recvCell c r) 0) ∗ spare c) := by
  unfold Pipeline.ownSems0 spare
  rw [bigSep_univ_sum, bigSep_univ_sum, bigSep_univ_eq_bigSepL [0, 1, 2, 3, 4, 5] (by decide) (by decide) (fun j : Fin 6 => _)]
  rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- Device `c`'s cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ spare c) := by
  unfold G
  rw [ownSems0_eq, unscopedSems0_eq]
  iintro ⟨⟨⟨HS, HV⟩, Hsp⟩, HB, Hst, Hat, Htok⟩
  imod (show iprop((bigSep Finset.univ fun k : CK => semVal (kcell (c, k)) 0) ∗ bigSep Finset.univ fun k : CK => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [HS HV HB Hst] with Hinv
  · isplitl [HS HV HB]
    · rw [sepCK]
      isplitl [HB]; · iexact HB
      isplitl [HS] <;> iassumption
    · iexact Hst
  imodintro
  isplitl [Hinv]; · iexact Hinv
  isplitl [Hat]; · iexact Hat
  isplitl [Htok] <;> iassumption

/-- What stays with one device. -/
def linear (c : Dev nD) : sProp 𝕄 := iprop(poss c ∗ payToks c ∗ spare c)

theorem ghost_intro (K : Dev nD × CK → ℕ) (c : Dev nD) : iprop(records m ρ K ∗ linear c) ⊢ G' m ρ c := by
  unfold linear G' ghost
  iintro ⟨#HR, HL⟩
  iexists K
  isplitr; · iexact HR
  iexact HL

/-- A signal's token goes to the device that gives the signal: `(c, r)` pays at `(nx c r, rev r)`. -/
def sigTurn : Dev nD × Fin 15 ≃ Dev nD × Fin 15 where
  toFun x := (nx x.1 x.2, Fin.rev x.2)
  invFun x := (nx x.1 x.2, Fin.rev x.2)
  left_inv x := Prod.ext (nx_rev _ _) (Fin.rev_rev _)
  right_inv x := Prod.ext (nx_rev _ _) (Fin.rev_rev _)
/-- An arrival's token goes to the device that sends the copy: `(c, r)` pays at `(nx c r, r)`. -/
def copyTurn : Dev nD × Fin 15 ≃ Dev nD × Fin 15 where
  toFun x := (nx x.1 x.2, x.2)
  invFun x := (pv x.1 x.2, x.2)
  left_inv x := Prod.ext (pv_nx _ _) rfl
  right_inv x := Prod.ext (nx_pv _ _) rfl

omit [FloatOps F] in
/-- Dealing out again along a turn of the pairs (device, distance). -/
theorem sep_turn (e : Dev nD × Fin 15 ≃ Dev nD × Fin 15) (Φ : Dev nD × Fin 15 → sProp 𝕄) :
    (bigSep Finset.univ fun c : Dev nD => bigSep Finset.univ fun r : Fin 15 => Φ (c, r))
      = bigSep Finset.univ fun c : Dev nD => bigSep Finset.univ fun r : Fin 15 => Φ (e (c, r)) := by
  rw [← bigSep_univ_prod Φ, bigSep_univ_equiv e Φ, bigSep_univ_prod]

omit [FloatOps F] in
theorem sig_around (Φ : Dev nD → Fin 15 → sProp 𝕄) : (bigSep Finset.univ fun c : Dev nD => bigSep Finset.univ fun d : Fin 15 => Φ c d)
    = bigSep Finset.univ fun c : Dev nD => bigSep Finset.univ fun r : Fin 15 => Φ (nx c r) (Fin.rev r) := sep_turn sigTurn fun x => Φ x.1 x.2
omit [FloatOps F] in
theorem copy_around (Φ : Dev nD → Fin 15 → sProp 𝕄) : (bigSep Finset.univ fun c : Dev nD => bigSep Finset.univ fun r : Fin 15 => Φ c r)
    = bigSep Finset.univ fun c : Dev nD => bigSep Finset.univ fun r : Fin 15 => Φ (nx c r) r := sep_turn copyTurn fun x => Φ x.1 x.2

theorem toks_around : (bigSep Finset.univ fun c : Dev nD => (toks c : sProp 𝕄)) ⊢ bigSep Finset.univ fun c : Dev nD => payToks c := by
  unfold toks payToks
  simp only [bigSep_sep']
  rw [sig_around fun c d => dutyTok ER (barCell c) 0 d, copy_around fun c r => dutyTok ER (recvCell c r) 0 0]

omit [FloatOps F] in
theorem sep_with_persistent {R : sProp 𝕄} [BI.Persistent R] {Φ Ψ : Dev nD → sProp 𝕄} (h : ∀ i, (iprop(R ∗ Φ i) ⊢ Ψ i : Prop)) :
    iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ spare c) : sProp 𝕄)
      ⊢ bigSep Finset.univ (G' m ρ) := by
  simp only [bigSep_sep']
  rw [← bigSep_univ_prod (fun ck : Dev nD × CK => iprop(∃ κ : ℕ, cellInv ER (rd m ρ) κ (kcell ck))),
    ← bigSep_univ_prod (fun ck : Dev nD × CK => (reached ER (kcell ck) 0 : sProp 𝕄))]
  iintro ⟨HI, ⟨Hat, #HR⟩, Htok, Hsp⟩
  ihave HK := (BI.bigSep_exists_pi Finset.univ (fun (ck : Dev nD × CK) (κ : ℕ) => (cellInv ER (rd m ρ) κ (kcell ck) : sProp 𝕄))) $$ HI
  icases HK with ⟨%K, #HI⟩
  ihave Htk := (toks_around (F := F)) $$ Htok
  iapply (sep_with_persistent (R := records m ρ K) fun c => ghost_intro m ρ K c)
  isplitr
  · unfold records; isplitl; · iexact HI
    iexact HR
  unfold linear poss
  simp only [bigSep_sep']
  isplitl [Hat]
  · ihave Ha := (Entails.of_eq ((bigSep_congr fun (c : Dev nD) _ => sepCK (F := F) fun k => atPos ER (kcell (c, k)) 0 ∅ 0).trans (by simp only [bigSep_sep']; rfl))) $$ Hat
    iexact Ha
  isplitl [Htk] <;> iassumption

/-- The global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem recv_ne_bar (c d : Dev nD) (r : Fin 15) : recvCell c r ≠ barCell d := fun h => dma_ne_bar _ (congrArg Prod.snd h)

/-- A sum of one amount over the entries of a list that meet a condition. -/
theorem sum_count (p : Fin 15 → Prop) [DecidablePred p] (k : ℕ) (l : List (Fin 15)) :
    (l.map fun r => if p r then k else 0).sum = (l.map fun r => if p r then 1 else 0).sum * k := by
  induction l with
  | nil => rw [List.map_nil, List.sum_nil, List.map_nil, List.sum_nil, Nat.zero_mul]
  | cons r l ih =>
    rw [List.map_cons, List.sum_cons, List.map_cons, List.sum_cons, ih, Nat.add_mul]
    by_cases h : p r
    · rw [if_pos h, if_pos h, Nat.one_mul]
    · rw [if_neg h, if_neg h, Nat.zero_mul]

theorem sum_zero (g : Fin 15 → ℕ) (h : ∀ r, g r = 0) (l : List (Fin 15)) : (l.map g).sum = 0 := by
  induction l with
  | nil => rfl
  | cons r l ih => rw [List.map_cons, List.sum_cons, h, ih]

theorem owed_bar (d c : Dev nD) : O₀ d (barCell c) () = (all15.map fun r => if nx d r = c then 1 else 0).sum := by
  unfold O₀ owB owR
  rw [owL_apply, owL_apply, sum_zero _ (fun r => by rw [tallyAt_ne_cell (fun h => recv_ne_bar _ _ _ h.symm)]; rfl)]
  rw [Pi.zero_apply, Finsupp.zero_apply, Nat.zero_add]
  refine congrArg List.sum (List.map_congr_left fun r _ => ?_)
  rw [tallyAt_apply]
  by_cases h : nx d r = c
  · rw [if_pos h, if_pos ⟨by rw [h], rfl⟩]
  · rw [if_neg h, if_neg fun h' => h (congrArg (fun g : GSem nD τ sig => g.1.1) h'.1).symm]

theorem owed_recv (d c : Dev nD) (r₀ : Fin 15) :
    O₀ d (recvCell c r₀) () = (all15.map fun r => if nx d r = c ∧ r = r₀ then 1 else 0).sum * N := by
  unfold O₀ owB owR
  rw [owL_apply, owL_apply, sum_zero (fun r => (tallyAt (barCell (nx d r)) () 1 : CellTallies nD τ sig Unit) _ _) (fun r => by rw [tallyAt_ne_cell (recv_ne_bar _ _ _)]; rfl)]
  rw [Pi.zero_apply, Finsupp.zero_apply, Nat.zero_add, Nat.add_zero, ← sum_count]
  refine congrArg List.sum (List.map_congr_left fun r _ => ?_)
  rw [tallyAt_apply]
  by_cases h : nx d r = c ∧ r = r₀
  · rw [if_pos h, if_pos ⟨by rw [h.1, h.2], rfl⟩]
  · rw [if_neg h, if_neg fun h' => h ⟨(congrArg (fun g : GSem nD τ sig => g.1.1) h'.1).symm, (recvS_inj (SemLoc.dma.inj (congrArg Prod.snd h'.1))).symm⟩]

theorem count_bar : ∀ c : Dev nD, (∑ d : Dev nD, (all15.map fun r => if nx d r = c then 1 else 0).sum) = 15 := by decide +kernel
theorem count_recv : ∀ (c : Dev nD) (r₀ : Fin 15), (∑ d : Dev nD, (all15.map fun r => if nx d r = c ∧ r = r₀ then 1 else 0).sum) = 1 := by decide +kernel

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, count_bar]

theorem launch_recv (c : Dev nD) (r : Fin 15) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same, Finset.sum_congr rfl fun d _ => owed_recv d c r, ← Finset.sum_mul, count_recv, Nat.one_mul]

/-- The arrival semaphores. -/
def recvSems : Finset (SemLoc sig) := Finset.univ.map ⟨fun r : Fin 15 => .dma (recvS r), fun _ _ h => recvS_inj (SemLoc.dma.inj h)⟩

/-- Each device's credit at launch: fifteen signals at its barrier, one slot at each arrival. -/
theorem creds (c : Dev nD) : (Pipeline.launchCred O₀ c : sProp 𝕄)
    ⊢ iprop(cred (tallyAt (barCell c) () 15) ∗ bigSep Finset.univ fun r : Fin 15 => cred (tallyAt (recvCell c r) () N)) := by
  unfold Pipeline.launchCred
  rw [bigSep_univ_at _ (SemLoc.reg barS), launch_bar]
  refine sep_mono_right ((bigSep_subset (t := recvSems) fun sm h => ?_).trans ?_)
  · obtain ⟨r, -, rfl⟩ := Finset.mem_map.mp h
    exact Finset.mem_erase.mpr ⟨dma_ne_bar _, Finset.mem_univ _⟩
  · unfold recvSems
    rw [bigSep_map]
    exact Entails.of_eq (bigSep_congr fun r _ => congrArg cred (launch_recv c r))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzB, HzS, HzV, Hsp⟩
  isplitl [HzB]; · iexact HzB
  isplitl [HzS HzV Hsp]
  · isplitl [HzS HzV]
    · isplitl [HzS] <;> iassumption
    · iexact Hsp
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values, from any memory with zero counters: every weakly fair
    execution ends, every device's argument arrays as they were and its result array at `ov`, and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array after the run holds what it held. -/
theorem final_arg (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.K

end
-- ==== Proof.K.Whole.lean ====
/-
# A window of a call with no grid is its whole array

A call with no grid has one point, and each of its windows is one block: the array itself. Stated once for any such
window: reading an array through the block gives the array, and every index of the array lies in the block.
-/
module

public import Idealize.ShloMosaic.Lib.Pipeline.Value

@[expose] public section

noncomputable section

namespace Cert.K

open Idealize.ShloMosaic

variable {sig : RefSig} {s : Shape} {e : EltTy} {cs : CoreSpace} {Val : EltTy → Type}

/-- An index of the one block is the same index of the array. -/
theorem whole_emb (arr : Memref sig .tc .hbm s e) (o y : Bool) (stage : Memref sig .tc (.core cs) ⟨s.rank, s.size⟩ e)
    (sem : DmaSem sig) (ha : arr.IsWhole) (hs : stage.IsWhole) (t : Fin Pipeline.Grid.none.N) (j : s.Idx) :
    ((Pipeline.Window.whole arr o y stage sem ha hs).blk t).view.emb j = arr.view.emb j := by
  show arr.view.emb _ = arr.view.emb j
  refine congrArg arr.view.emb ?_
  funext a
  apply Fin.ext
  show 0 * s.size a + 1 * (j a).val = (j a).val
  omega

/-- Contents read through the one block are the contents read through the array. -/
theorem whole_read (arr : Memref sig .tc .hbm s e) (o y : Bool) (stage : Memref sig .tc (.core cs) ⟨s.rank, s.size⟩ e)
    (sem : DmaSem sig) (ha : arr.IsWhole) (hs : stage.IsWhole) (t : Fin Pipeline.Grid.none.N) (X : arr.view.ty.Contents Val) :
    ((Pipeline.Window.whole arr o y stage sem ha hs).blk t).view.read Val X = arr.view.read Val X := by
  refine congrArg (arr.view.read Val X ∘ ·) (?_ : (fun j : s.Idx => _) = id)
  funext j a
  apply Fin.ext
  show 0 * s.size a + 1 * (j a).val = (j a).val
  omega

/-- Every index the array has is in the one block. -/
theorem whole_mem (arr : Memref sig .tc .hbm s e) (o y : Bool) (stage : Memref sig .tc (.core cs) ⟨s.rank, s.size⟩ e)
    (sem : DmaSem sig) (ha : arr.IsWhole) (hs : stage.IsWhole) (t : Fin Pipeline.Grid.none.N) (j : s.Idx) :
    arr.view.emb j ∈ ((Pipeline.Window.whole arr o y stage sem ha hs).blk t).view.set :=
  whole_emb arr o y stage sem ha hs t j ▸
    ((Pipeline.Window.whole arr o y stage sem ha hs).blk t).view.emb_mem_set j

end Cert.K

end
-- ==== Proof.K.Frames.lean ====
/-
# What the run leaves behind

The kernel's run in the words of the claims, for any float values: on every device the result array ends at `ov`, the
four arguments are as they were, and every semaphore counter is zero.
-/
module

public import proofs.«01_k».proof.Proof.K.Launch
public import proofs.«01_k».proof.Proof.K.Whole

@[expose] public section

noncomputable section

namespace Cert.K

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The input blocks are the arguments as launched. -/
theorem xstg_eq (c : Dev nD) : xstg m ρ c = m ((c : Thread nD τ).loc main_arg0) :=
  whole_read (Val := Elt F) (Memref.whole main_arg0) false false (stage0_0 0) (sem0_0 0) (Memref.isWhole_whole _) (hstage0_0 0) (0 : Fin 1) _
theorem wstg_eq (c : Dev nD) : wstg m ρ c = m ((c : Thread nD τ).loc main_arg1) :=
  whole_read (Val := Elt F) (Memref.whole main_arg1) false false (stage0_1 0) (sem0_1 0) (Memref.isWhole_whole _) (hstage0_1 0) (0 : Fin 1) _
theorem sxstg_eq (c : Dev nD) : sxstg m ρ c = m ((c : Thread nD τ).loc main_arg2) :=
  whole_read (Val := Elt F) (Memref.whole main_arg2) false false (stage0_2 0) (sem0_2 0) (Memref.isWhole_whole _) (hstage0_2 0) (0 : Fin 1) _
theorem swstg_eq (c : Dev nD) : swstg m ρ c = m ((c : Thread nD τ).loc main_arg3) :=
  whole_read (Val := Elt F) (Memref.whole main_arg3) false false (stage0_3 0) (sem0_3 0) (Memref.isWhole_whole _) (hstage0_3 0) (0 : Fin 1) _

/-- The result array after the run. -/
theorem final_out (c : Dev nD) : finalA m ρ c 4 = ov m ρ c :=
  (dats (F := F) m ρ 0 c).arrAt_eq_of_cover 4 (ov m ρ c)
    (fun t _ => (whole_read (Val := Elt F) (Memref.whole main_v1) true false (stage0_4 0) (sem0_4 0) (Memref.isWhole_whole _) (hstage0_4 0) t (ov m ρ c)).symm)
    (fun i => ⟨⟨0, by decide⟩, rfl,
      whole_mem (Memref.whole main_v1) true false (stage0_4 0) (sem0_4 0) (Memref.isWhole_whole _) (hstage0_4 0) ⟨0, by decide⟩ i⟩)

/-- The arguments after the run. -/
theorem kept {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h c 0).trans (final_arg m ρ c 0 rfl), (h c 1).trans (final_arg m ρ c 1 rfl), (h c 2).trans (final_arg m ρ c 2 rfl),
    (h c 3).trans (final_arg m ρ c 3 rfl)⟩

/-- The run, its arguments kept and its counters zero, -/
theorem run_frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun _ h => ⟨kept m ρ h.1, h.2⟩) (run_main m ρ)

/-- and its result at `ov`. -/
theorem run_value : θ_run defs (onTc (τ := τ) (main (F := F))) ⟨m, fun _ => 0, ρ⟩ fun r => ∀ c : Dev nD,
      r.2.mem ((c : Thread nD τ).loc main_v1) = ov m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c 4).trans (final_out m ρ c), kept m ρ h.1 c⟩) (run_main m ρ)

end Cert.K

end
-- ==== Proof.K.Reference.lean ====
/-
# The reference's result as one function of its arguments

The reference is one call with no grid: it loads the two matrices and the two scales whole, and stores the scaled
product whole. `G` is that product; `run` says the result array ends holding it.
-/
module

public import proofs.«01_k».proof.Proof.K.Whole
public import proofs.«01_k».proof.Proof.Gen.ReferenceIdeal.Value

@[expose] public section

noncomputable section

namespace Cert.K.Ref

open Cert.ReferenceIdeal Cert.ReferenceIdeal.Gen Cert.ReferenceIdeal.Value
open Idealize.ShloMosaic Idealize.ShloMosaic.TcCoe Idealize.SL.Sem

variable {F : FTy → Type} [FloatOps F]

/-- The one index of a one-element array. -/
def only : S1.Idx := fun | ⟨0, _⟩ => (0 : Fin 1)

theorem eq_only (i : S1.Idx) : i = only := by
  funext a
  match a with
  | ⟨0, _⟩ => exact Subsingleton.elim (α := Fin 1) _ _

/-- The product of `x` and `w`, times the product of the two scales. -/
def G (x : Vec F S4096x4096 .fp8e4m3) (w : Vec F S4096x2048 .fp8e4m3) (sx sw : Vec F S1 .f32) : Vec F S4096x2048 .f32 :=
  k0_pay1 x w (sx only) (sw only)

theorem zero2 : (![0, 0] : Fin 2 → Nat) = fun _ => 0 := funext fun a => by fin_cases a <;> rfl

/-- The body leaves `G` of what the four input buffers hold in the output's buffer: one store of the whole of it, after
    loads of the whole of each matrix and of the one word of each scale. -/
theorem out_eq (c : Dev nD) (a0 : Memref sig .tc .vmem S4096x4096 .fp8e4m3) (h0 : a0.IsWhole)
    (a1 : Memref sig .tc .vmem S4096x2048 .fp8e4m3) (h1 : a1.IsWhole) (a2 : Memref sig .tc .smem S1 .f32) (h2 : a2.IsWhole)
    (a3 : Memref sig .tc .smem S1 .f32) (h3 : a3.IsWhole) (a4 : Memref sig .tc .vmem S4096x2048 .f32) (h4 : a4.IsWhole)
    (x : Vec F S4096x4096 .fp8e4m3) (w : Vec F S4096x2048 .fp8e4m3) (sx sw : Vec F S1 .f32) :
    out0_A_4 c a0 h0 a1 h1 a2 h2 a3 h3 a4 h4 x w sx sw = G x w sx sw := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x2048 .f32)) = _
  rw [View.canon_unit_zero zero2]
  repeat rw [View.readAt_eq_ld]
  rw [h0.read_unread, h1.read_unread, h2.read_unread, h3.read_unread, View.ld_unit_zero zero2, View.ld_unit_zero zero2]
  exact congrArg₂ (k0_pay1 x w) (congrArg sx (eq_only _)) (congrArg sw (eq_only _))

variable (m : (ℓ : Loc nD τ sig) → Buf (Elt F) ℓ) (ρ : Dev nD → PrngReg)

/-- `G` of the arguments as launched. -/
def val (c : Dev nD) : Vec F S4096x2048 .f32 :=
  G (m ((c : Thread nD τ).loc main_arg0)) (m ((c : Thread nD τ).loc main_arg1)) (m ((c : Thread nD τ).loc main_arg2))
    (m ((c : Thread nD τ).loc main_arg3))

/-- Each input's block is its argument as launched. -/
theorem in0 (c : Dev nD) (t : Fin cfg0.N) : iblk m c 0 t = m ((c : Thread nD τ).loc main_arg0) :=
  (whole_read (Val := Elt F) (Memref.whole main_arg0) false false (stage0_0 0) (sem0_0 0) (Memref.isWhole_whole _) (hstage0_0 0) t _).trans (V_main_arg0 m c)
theorem in1 (c : Dev nD) (t : Fin cfg0.N) : iblk m c 1 t = m ((c : Thread nD τ).loc main_arg1) :=
  (whole_read (Val := Elt F) (Memref.whole main_arg1) false false (stage0_1 0) (sem0_1 0) (Memref.isWhole_whole _) (hstage0_1 0) t _).trans (V_main_arg1 m c)
theorem in2 (c : Dev nD) (t : Fin cfg0.N) : iblk m c 2 t = m ((c : Thread nD τ).loc main_arg2) :=
  (whole_read (Val := Elt F) (Memref.whole main_arg2) false false (stage0_2 0) (sem0_2 0) (Memref.isWhole_whole _) (hstage0_2 0) t _).trans (V_main_arg2 m c)
theorem in3 (c : Dev nD) (t : Fin cfg0.N) : iblk m c 3 t = m ((c : Thread nD τ).loc main_arg3) :=
  (whole_read (Val := Elt F) (Memref.whole main_arg3) false false (stage0_3 0) (sem0_3 0) (Memref.isWhole_whole _) (hstage0_3 0) t _).trans (V_main_arg3 m c)

/-- The result array after the run. -/
theorem final (c : Dev nD) : (dats m 0 c).arrAt 4 cfg0.N = val m c :=
  (dats m 0 c).arrAt_eq_of_cover 4 (val m c)
    (fun t _ => by
      rw [flushed4_A, out_eq, in0, in1, in2, in3]
      exact (whole_read (Val := Elt F) (Memref.whole main_v0) true false (stage0_4 0) (sem0_4 0) (Memref.isWhole_whole _) (hstage0_4 0) t (val m c)).symm)
    (fun i => ⟨⟨0, by decide⟩, rfl,
      whole_mem (Memref.whole main_v0) true false (stage0_4 0) (sem0_4 0) (Memref.isWhole_whole _) (hstage0_4 0) ⟨0, by decide⟩ i⟩)

/-- The reference ends with its result at `val` and its arguments as they were. -/
theorem run : θ_run defs (onTc (τ := τ) (main (F := F))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.K.Ref

end
-- ==== Proof.K.Value.lean ====
/-
# The kernel's result is the reference's, block by block

At the extended reals a format change is the identity, so the columns a device is sent are the columns of its sender's
product, and its own it keeps. Row `256 · p + r` of a device's result is row `r` of device `p`'s product, which is row
`256 · p + r` of the whole product, since device `p` holds rows `256 · p, …` of `x`. Column `b` of device `c` is column
`128 · c + b` of the whole.
-/
module

public import proofs.«01_k».proof.Proof.K.Frames
public import proofs.«01_k».proof.Proof.K.Reference
public import Idealize.ShloMosaic.Lib.MatmulPlain
public import Idealize.ShloMosaic.Lib.Layout
public import Idealize.ShloMosaic.PureOps.Ideal

@[expose] public section

noncomputable section

namespace Cert.K

open Cert.KernelIdeal Cert.KernelIdeal.Gen
open Idealize.ShloMosaic Idealize.ShloMosaic.TcCoe Idealize.ShloMosaic.ValueIdx
open scoped BigOperators

/-- A product of two matrices and of two scales, at a row and a column: the sum the two programs both compute. -/
def entry {M N : ℕ} (x : FVec Ideal ⟨2, ![M, 4096]⟩ .fp8e4m3) (w : FVec Ideal ⟨2, ![4096, N]⟩ .fp8e4m3)
    (a b : Ideal .f32) (r : Fin M) (l : Fin N) : Ideal .f32 :=
  FloatOps.mulf (constant (F := Ideal) ⟨2, ![M, N]⟩ .f32 0x00000000#32 (ix2 r l) + ∑ k : Fin 4096, x (ix2 r k) * w (ix2 k l)) (Scalar.mulf a b)

/-- The reference's result at a row and a column. -/
theorem ref_entry (x : Vec Ideal Cert.ReferenceIdeal.S4096x4096 .fp8e4m3) (w : Vec Ideal Cert.ReferenceIdeal.S4096x2048 .fp8e4m3)
    (sx sw : Vec Ideal Cert.ReferenceIdeal.S1 .f32) (r : Fin 4096) (l : Fin 2048) :
    Ref.G x w sx sw (ix2 r l) = entry x w (sx Ref.only) (sw Ref.only) r l :=
  congrArg (FloatOps.mulf · _) (Ideal.matmul_plain_apply (M := 4096) (K := 4096) (N := 2048) none x w _ r l)

/-- The kernel's product on one device at a row and a column. -/
theorem prod_entry (a b : Ideal .f32) (x : Vec Ideal S256x4096 .fp8e4m3) (w : Vec Ideal S4096x2048 .fp8e4m3) (r : Fin 256) (l : Fin 2048) :
    k0_pay4 (k0_pay3 a b x w) (ix2 r l) = entry x w a b r l := by
  unfold k0_pay4 k0_pay3
  simp only [shapeCast_self]
  exact congrArg (FloatOps.mulf · _) (Ideal.matmul_plain_apply (M := 256) (K := 4096) (N := 2048) none x w _ r l)

/-- Columns rounded for the way and widened on arrival are the columns themselves. -/
theorem wid_rnd (v : FVec Ideal S256x128 .f32) : wid (rnd v) = v :=
  shapeCast_shapeCast v _ _

variable (m : (ℓ : Loc nD τ sig) → Buf (Elt Ideal) ℓ) (ρ : Dev nD → PrngReg)

/-- So the rows of device `p` in the result of device `c` are `c`'s columns of `p`'s product, whoever `p` is. -/
theorem blk_eq (c p : Dev nD) : blk m ρ c p = colBlk m ρ p c := by
  unfold blk sent
  split
  · next h => rw [h]
  · exact wid_rnd _

/-- Device `c`'s columns of a product, at a row and a column. -/
theorem colBlk_apply (p c : Dev nD) (r : Fin 256) (b : Fin 128) :
    colBlk m ρ p c (ix2 r b) = yv m ρ p (ix2 r ⟨128 * c.val + b.val, by have := c.isLt; have := b.isLt; change c.val < 16 at *; omega⟩) := by
  unfold colBlk
  refine congrArg (yv m ρ p) ?_
  funext a
  apply Fin.ext
  match a with
  | ⟨0, _⟩ =>
    show k0_off1 c 0 + 1 * r.val = r.val
    rw [k0_off1_eq]
    show 0 + 1 * r.val = r.val
    omega
  | ⟨1, _⟩ =>
    show k0_off1 c 1 + 1 * b.val = 128 * c.val + b.val
    rw [k0_off1_eq]
    show 128 * c.val + 1 * b.val = 128 * c.val + b.val
    omega

/-- A device's product at a row and a column, of the arguments as launched. -/
theorem yv_apply (p : Dev nD) (r : Fin 256) (l : Fin 2048) :
    yv m ρ p (ix2 r l) = entry (M := 256) (N := 2048) (m ((p : Thread nD τ).loc main_arg0)) (m ((p : Thread nD τ).loc main_arg1))
      (m ((p : Thread nD τ).loc main_arg2) Ref.only) (m ((p : Thread nD τ).loc main_arg3) Ref.only) r l := by
  unfold yv
  rw [prod_entry, xstg_eq, wstg_eq, sxstg_eq, swstg_eq]
  exact congrArg₂ (fun a b => entry (M := 256) (N := 2048) (m ((p : Thread nD τ).loc main_arg0)) (m ((p : Thread nD τ).loc main_arg1)) a b r l)
    (congrArg (m ((p : Thread nD τ).loc main_arg2)) (Ref.eq_only _)) (congrArg (m ((p : Thread nD τ).loc main_arg3)) (Ref.eq_only _))

/-- Of equal rows the products have equal entries. -/
theorem entry_rows {M M' N : ℕ} (x : FVec Ideal ⟨2, ![M, 4096]⟩ .fp8e4m3) (x' : FVec Ideal ⟨2, ![M', 4096]⟩ .fp8e4m3)
    (w : FVec Ideal ⟨2, ![4096, N]⟩ .fp8e4m3) (a b : Ideal .f32) (r : Fin M) (r' : Fin M') (l : Fin N)
    (h : ∀ k : Fin 4096, x (ix2 r k) = x' (ix2 r' k)) : entry x w a b r l = entry x' w a b r' l := by
  unfold entry
  simp only [h]
  rfl

variable (m' : (ℓ : Loc Cert.ReferenceIdeal.nD Cert.ReferenceIdeal.τ Cert.ReferenceIdeal.sig) → Buf (Elt Ideal) ℓ)

/-- Each device holds its rows of `x`, and `w` and the scales whole. -/
def Parts : Prop := ∀ c : Dev nD,
  m ((c : Thread nD τ).loc main_arg0) = Layout.block ⟨2, ![256, 4096]⟩ ⟨2, ![4096, 4096]⟩ 0 16 c (m' (((0 : Dev Cert.ReferenceIdeal.nD) : Thread Cert.ReferenceIdeal.nD Cert.ReferenceIdeal.τ).loc Cert.ReferenceIdeal.main_arg0))
  ∧ m ((c : Thread nD τ).loc main_arg1) = m' (((0 : Dev Cert.ReferenceIdeal.nD) : Thread Cert.ReferenceIdeal.nD Cert.ReferenceIdeal.τ).loc Cert.ReferenceIdeal.main_arg1)
  ∧ m ((c : Thread nD τ).loc main_arg2) = m' (((0 : Dev Cert.ReferenceIdeal.nD) : Thread Cert.ReferenceIdeal.nD Cert.ReferenceIdeal.τ).loc Cert.ReferenceIdeal.main_arg2)
  ∧ m ((c : Thread nD τ).loc main_arg3) = m' (((0 : Dev Cert.ReferenceIdeal.nD) : Thread Cert.ReferenceIdeal.nD Cert.ReferenceIdeal.τ).loc Cert.ReferenceIdeal.main_arg3)

/-- Then each device's result is its columns of the reference's. -/
theorem ov_eq (h : Parts m m') (c : Dev nD) :
    ov m ρ c = Layout.block ⟨2, ![4096, 128]⟩ ⟨2, ![4096, 2048]⟩ 1 16 c (Ref.val m' 0) := by
  funext i
  obtain ⟨g, b, rfl⟩ : ∃ (g : Fin 4096) (b : Fin 128), i = ix2 g b := ⟨_, _, eq_ix2 i⟩
  have hc : c.val < 16 := c.isLt
  have hb : b.val < 128 := b.isLt
  have hg : g.val < 4096 := g.isLt
  let p : Dev nD := ⟨g.val / 256, by show _ < 16; omega⟩
  let r : Fin 256 := ⟨g.val % 256, Nat.mod_lt _ (by decide)⟩
  let l : Fin 2048 := ⟨128 * c.val + b.val, by omega⟩
  have hl : ov m ρ c (ix2 g b) = blk m ρ c p (ix2 r b) := by
    refine congrArg (blk m ρ c p) ?_
    funext a
    match a with
    | ⟨0, _⟩ => rfl
    | ⟨1, _⟩ => rfl
  have hr : ∀ t : Layout.Tiles ⟨2, ![4096, 128]⟩ ⟨2, ![4096, 2048]⟩ 1 16, t.idx c (ix2 g b) = ix2 g l := fun t => by
    funext a
    apply Fin.ext
    match a with
    | ⟨0, _⟩ => rfl
    | ⟨1, _⟩ => show c.val * 128 + b.val = 128 * c.val + b.val; omega
  obtain ⟨e0, e1, e2, e3⟩ := h p
  rw [hl, blk_eq, colBlk_apply, yv_apply, Layout.block_apply, hr]
  unfold Ref.val
  rw [ref_entry, e1, e2, e3]
  refine entry_rows _ _ _ _ _ r g l fun k => ?_
  rw [e0, Layout.block_apply]
  refine congrArg (m' _) ?_
  funext a
  apply Fin.ext
  match a with
  | ⟨0, _⟩ => show g.val / 256 * 256 + g.val % 256 = g.val; omega
  | ⟨1, _⟩ => rfl

end Cert.K

end
-- ==== Proof.K.Same.lean ====
/-
# The kernel as printed and the idealized kernel are one program

No operation was rewritten, so the two body tables agree at any float values, and what is proved of the one's run holds
of the other's.
-/
module

public import proofs.«01_k».proof.Proof.K.Frames
public import proofs.«01_k».proof.Proof.Gen.Kernel
public import Idealize.ShloMosaic.Adequacy

@[expose] public section

noncomputable section

namespace Cert.K

open Idealize.ShloMosaic Idealize.ShloMosaic.TcCoe Idealize.SL.Sem

local instance : Cert.Kernel.Facts := Cert.Kernel.Gen.facts

variable {F : FTy → Type} [FloatOps F]

set_option maxRecDepth 100000 in
/-- The two kernels' bodies, label by label. -/
theorem bodies_eq : Cert.Kernel.defs₀ (F := F) = Cert.KernelIdeal.defs₀ (F := F) := by
  unfold Cert.Kernel.defs₀ Cert.KernelIdeal.defs₀
  refine congrArg Defs.onTc ?_
  funext l
  match l with
  | ⟨0, _⟩ => rfl

/-- The two programs' tables. -/
theorem defs_eq : Cert.Kernel.defs (F := F) = Cert.KernelIdeal.defs (F := F) := congrArg (Pipeline.defs _) bodies_eq

variable (m : (ℓ : Loc Cert.Kernel.nD Cert.Kernel.τ Cert.Kernel.sig) → Buf (Elt F) ℓ) (ρ : Dev Cert.Kernel.nD → PrngReg)

/-- The printed kernel's run, its arguments kept and its counters zero. -/
theorem run_printed : θ_run Cert.Kernel.defs (onTc (τ := Cert.Kernel.τ) (Cert.Kernel.main (F := F))) ⟨m, fun _ => 0, ρ⟩ fun r =>
      (∀ c : Dev Cert.Kernel.nD,
        r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1)
        ∧ r.2.mem ((c : Thread Cert.Kernel.nD Cert.Kernel.τ).loc Cert.Kernel.main_arg2) = m ((c : Thread Cert.Kernel.nD Cert.Kernel.τ).loc Cert.Kernel.main_arg2)
        ∧ r.2.mem ((c : Thread Cert.Kernel.nD Cert.Kernel.τ).loc Cert.Kernel.main_arg3) = m ((c : Thread Cert.Kernel.nD Cert.Kernel.τ).loc Cert.Kernel.main_arg3))
      ∧ r.2.sem = fun _ => 0 := by
  rw [defs_eq]
  exact run_frame m ρ

end Cert.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import proofs.«01_k».proof.Proof.Gen.ReferenceIdeal.Value
public import proofs.«01_k».proof.Proof.K.Value
public import proofs.«01_k».proof.Proof.K.Same
public import Idealize.ShloMosaic.Init

@[expose] public section

noncomputable section

namespace Cert.Proof

open Idealize.ShloMosaic Idealize.SL.Sem

/-- The kernel as printed runs, at the machine's own floats: its text is the idealized kernel's, whose run is proved at any. -/
theorem frame_kernel : @Cert.quiescent_Kernel Cert.Kernel.Gen.facts := fun m g _ => Cert.K.run_printed (F := Bits) m g

/-- The idealized kernel runs, at the extended reals. -/
theorem frame_ideal : @Cert.quiescent_KernelIdeal Cert.KernelIdeal.Gen.facts := fun m g _ => Cert.K.run_frame (F := Ideal) m g

/-- The kernel's sixteen results are the column blocks of the reference's one. -/
theorem value : @Cert.algebraic_KernelIdeal_ReferenceIdeal Cert.KernelIdeal.Gen.facts Cert.ReferenceIdeal.Gen.facts :=
  fun m g m' g' _ h => ⟨Cert.K.Ref.val m' 0,
    (θ_run Cert.KernelIdeal.defs _ _).mono (fun _ hr c => ⟨(hr c).1.trans (Cert.K.ov_eq m g m' h c), (hr c).2⟩) (Cert.K.run_value (F := Ideal) m g),
    (θ_run Cert.ReferenceIdeal.defs _ _).mono (fun _ hr => hr 0) (Cert.K.Ref.run (F := Ideal) m' g')⟩

theorem claim : Cert.Claim := ⟨Cert.Kernel.Gen.facts, Cert.KernelIdeal.Gen.facts, Cert.ReferenceIdeal.Gen.facts,
  frame_kernel, frame_ideal, fun m g _ => Cert.ReferenceIdeal.Gen.frame m g, trivial, value⟩

end Cert.Proof

end
